-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![16384, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S16384x512 : Shape := ⟨2, ![16384, 512]⟩
abbrev S_ : Shape := ⟨0, ![]⟩
abbrev S21 : Shape := ⟨1, ![21]⟩
abbrev S1 : Shape := ⟨1, ![1]⟩
abbrev S680x512 : Shape := ⟨2, ![680, 512]⟩
abbrev S688x512 : Shape := ⟨2, ![688, 512]⟩

abbrev nBuf : Space → Nat
  | .hbm => 2
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S16384x512, .f32⟩
  | _, _ => ⟨S2048x512, .f32⟩

abbrev bufScoped : (cs : CoreSpace) → Fin (nBuf (.core cs)) → Bool
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2048_i32 : BitVec 32 := 2048#32
  let v13 : BitVec 32 := Scalar.muli v2 c2048_i32
  let c0_i32_10 : BitVec 32 := 0#32
  ![v13.toNat, 0]
def k0_off2 (d0 : Dev nD) (c0_i32_13 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2048_i32_12 : BitVec 32 := 2048#32
  let v16 : BitVec 32 := Scalar.muli v2 c2048_i32_12
  let v17 : BitVec 32 := Scalar.addi v16 c0_i32_13
  let c0_i32_18 : BitVec 32 := 0#32
  ![v17.toNat, 0]
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v15 : BitVec 32 := Scalar.xori v2 c1_i32_11
  let c1_i32_16 : BitVec 32 := 1#32
  let v18 : BitVec 32 := Scalar.muli v15 c1_i32_16
  let v19 : BitVec 32 := Scalar.addi c0_i32_17 v18
  v19.toNat
def k0_dev5 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_21 : BitVec 32 := 3#32
  let v26 : BitVec 32 := Scalar.xori v2 c3_i32_21
  let c1_i32_24 : BitVec 32 := 1#32
  let v29 : BitVec 32 := Scalar.muli v26 c1_i32_24
  let v30 : BitVec 32 := Scalar.addi c0_i32_25 v29
  v30.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2048_i32_30 : BitVec 32 := 2048#32
  let v38 : BitVec 32 := Scalar.muli v2 c2048_i32_30
  let c1360_i32 : BitVec 32 := 1360#32
  let v39 : BitVec 32 := Scalar.addi v38 c1360_i32
  let c0_i32_34 : BitVec 32 := 0#32
  ![v39.toNat, 0]
def k0_dev6 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v37 : BitVec 32 := Scalar.xori v2 c4_i32_29
  let c1_i32_32 : BitVec 32 := 1#32
  let v40 : BitVec 32 := Scalar.muli v37 c1_i32_32
  let v41 : BitVec 32 := Scalar.addi c0_i32_33 v40
  v41.toNat
def k0_dev7 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_37 : BitVec 32 := 3#32
  let v48 : BitVec 32 := Scalar.xori v2 c3_i32_37
  let c1_i32_42 : BitVec 32 := 1#32
  let v51 : BitVec 32 := Scalar.muli v48 c1_i32_42
  let v52 : BitVec 32 := Scalar.addi c0_i32_43 v51
  v52.toNat
def k0_dev8 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_47 : BitVec 32 := 4#32
  let v59 : BitVec 32 := Scalar.xori v2 c4_i32_47
  let c1_i32_52 : BitVec 32 := 1#32
  let v62 : BitVec 32 := Scalar.muli v59 c1_i32_52
  let v63 : BitVec 32 := Scalar.addi c0_i32_53 v62
  v63.toNat
def k0_dev9 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_57 : BitVec 32 := 1#32
  let v70 : BitVec 32 := Scalar.xori v2 c1_i32_57
  let c1_i32_61 : BitVec 32 := 1#32
  let v73 : BitVec 32 := Scalar.muli v70 c1_i32_61
  let v74 : BitVec 32 := Scalar.addi c0_i32_62 v73
  v74.toNat
def k0_dev10 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_66 : BitVec 32 := 4#32
  let v81 : BitVec 32 := Scalar.xori v2 c4_i32_66
  let c1_i32_71 : BitVec 32 := 1#32
  let v84 : BitVec 32 := Scalar.muli v81 c1_i32_71
  let v85 : BitVec 32 := Scalar.addi c0_i32_72 v84
  v85.toNat
def k0_dev11 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_76 : BitVec 32 := 1#32
  let v92 : BitVec 32 := Scalar.xori v2 c1_i32_76
  let c1_i32_80 : BitVec 32 := 1#32
  let v95 : BitVec 32 := Scalar.muli v92 c1_i32_80
  let v96 : BitVec 32 := Scalar.addi c0_i32_81 v95
  v96.toNat
def k0_dev12 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_85 : BitVec 32 := 3#32
  let v103 : BitVec 32 := Scalar.xori v2 c3_i32_85
  let c1_i32_89 : BitVec 32 := 1#32
  let v106 : BitVec 32 := Scalar.muli v103 c1_i32_89
  let v107 : BitVec 32 := Scalar.addi c0_i32_90 v106
  v107.toNat
def k0_off4 (d0 : Dev nD) (c1_i32_94 : BitVec 32) (c0_i32_97 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v114 : BitVec 32 := Scalar.xori v2 c1_i32_94
  let c2048_i32_96 : BitVec 32 := 2048#32
  let v116 : BitVec 32 := Scalar.muli v114 c2048_i32_96
  let v117 : BitVec 32 := Scalar.addi v116 c0_i32_97
  let c0_i32_102 : BitVec 32 := 0#32
  ![v117.toNat, 0]
def k0_off4_at (r : Fin 6) : BitVec 32 × BitVec 32 :=
  if r.val < 3 then
    if r.val < 1 then
      (1#32, 0#32)
    else
      if r.val < 2 then
        (3#32, 680#32)
      else
        (3#32, 0#32)
  else
    if r.val < 4 then
      (4#32, 680#32)
    else
      if r.val < 5 then
        (4#32, 0#32)
      else
        (1#32, 680#32)
def k0_dev13 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_105 : BitVec 32 := 3#32
  let v125 : BitVec 32 := Scalar.xori v2 c3_i32_105
  let c1_i32_109 : BitVec 32 := 1#32
  let v128 : BitVec 32 := Scalar.muli v125 c1_i32_109
  let v129 : BitVec 32 := Scalar.addi c0_i32_110 v128
  v129.toNat
def k0_dev14 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_124 : BitVec 32 := 4#32
  let v147 : BitVec 32 := Scalar.xori v2 c4_i32_124
  let c1_i32_128 : BitVec 32 := 1#32
  let v150 : BitVec 32 := Scalar.muli v147 c1_i32_128
  let v151 : BitVec 32 := Scalar.addi c0_i32_129 v150
  v151.toNat
def k0_off5 (d0 : Dev nD) (c4_i32_132 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v158 : BitVec 32 := Scalar.xori v2 c4_i32_132
  let c2048_i32_134 : BitVec 32 := 2048#32
  let v160 : BitVec 32 := Scalar.muli v158 c2048_i32_134
  let c1360_i32_135 : BitVec 32 := 1360#32
  let v161 : BitVec 32 := Scalar.addi v160 c1360_i32_135
  let c0_i32_140 : BitVec 32 := 0#32
  ![v161.toNat, 0]
def k0_off5_at (r : Fin 3) : BitVec 32 :=
  if r.val < 1 then
    4#32
  else
    if r.val < 2 then
      1#32
    else
      3#32
def k0_dev15 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_143 : BitVec 32 := 1#32
  let v169 : BitVec 32 := Scalar.xori v2 c1_i32_143
  let c1_i32_147 : BitVec 32 := 1#32
  let v172 : BitVec 32 := Scalar.muli v169 c1_i32_147
  let v173 : BitVec 32 := Scalar.addi c0_i32_148 v172
  v173.toNat
def k0_dev16 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_152 : BitVec 32 := 4#32
  let v181 : BitVec 32 := Scalar.xori v2 c4_i32_152
  let c1_i32_157 : BitVec 32 := 1#32
  let v184 : BitVec 32 := Scalar.muli v181 c1_i32_157
  let v185 : BitVec 32 := Scalar.addi c0_i32_158 v184
  v185.toNat
def k0_dev17 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_162 : BitVec 32 := 1#32
  let v193 : BitVec 32 := Scalar.xori v2 c1_i32_162
  let c1_i32_166 : BitVec 32 := 1#32
  let v196 : BitVec 32 := Scalar.muli v193 c1_i32_166
  let v197 : BitVec 32 := Scalar.addi c0_i32_167 v196
  v197.toNat
def k0_dev18 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_171 : BitVec 32 := 3#32
  let v205 : BitVec 32 := Scalar.xori v2 c3_i32_171
  let c1_i32_175 : BitVec 32 := 1#32
  let v208 : BitVec 32 := Scalar.muli v205 c1_i32_175
  let v209 : BitVec 32 := Scalar.addi c0_i32_176 v208
  v209.toNat
def k0_off6 (d0 : Dev nD) (c1_i32_189 : BitVec 32) (c3_i32_190 : BitVec 32) (c0_i32_193 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v226 : BitVec 32 := Scalar.xori v2 c1_i32_189
  let v227 : BitVec 32 := Scalar.xori v226 c3_i32_190
  let c2048_i32_192 : BitVec 32 := 2048#32
  let v229 : BitVec 32 := Scalar.muli v227 c2048_i32_192
  let v230 : BitVec 32 := Scalar.addi v229 c0_i32_193
  let c0_i32_198 : BitVec 32 := 0#32
  ![v230.toNat, 0]
def k0_off6_at (r : Fin 6) : BitVec 32 × BitVec 32 × BitVec 32 :=
  if r.val < 3 then
    if r.val < 1 then
      (1#32, 3#32, 0#32)
    else
      if r.val < 2 then
        (3#32, 4#32, 680#32)
      else
        (1#32, 4#32, 0#32)
  else
    if r.val < 4 then
      (3#32, 4#32, 0#32)
    else
      if r.val < 5 then
        (3#32, 1#32, 680#32)
      else
        (4#32, 1#32, 680#32)
def k0_dev19 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_201 : BitVec 32 := 4#32
  let v238 : BitVec 32 := Scalar.xori v2 c4_i32_201
  let c1_i32_205 : BitVec 32 := 1#32
  let v241 : BitVec 32 := Scalar.muli v238 c1_i32_205
  let v242 : BitVec 32 := Scalar.addi c0_i32_206 v241
  v242.toNat
def k0_dev20 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_211 : BitVec 32 := 4#32
  let v251 : BitVec 32 := Scalar.xori v2 c4_i32_211
  let c1_i32_215 : BitVec 32 := 1#32
  let v254 : BitVec 32 := Scalar.muli v251 c1_i32_215
  let v255 : BitVec 32 := Scalar.addi c0_i32_216 v254
  v255.toNat
def k0_dev21 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_241 : BitVec 32 := 1#32
  let v284 : BitVec 32 := Scalar.xori v2 c1_i32_241
  let c1_i32_245 : BitVec 32 := 1#32
  let v287 : BitVec 32 := Scalar.muli v284 c1_i32_245
  let v288 : BitVec 32 := Scalar.addi c0_i32_246 v287
  v288.toNat
def k0_dev22 (d0 : Dev nD) : Nat :=
  let c0_i32_256 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_251 : BitVec 32 := 1#32
  let v297 : BitVec 32 := Scalar.xori v2 c1_i32_251
  let c1_i32_255 : BitVec 32 := 1#32
  let v300 : BitVec 32 := Scalar.muli v297 c1_i32_255
  let v301 : BitVec 32 := Scalar.addi c0_i32_256 v300
  v301.toNat
def k0_off7 (d0 : Dev nD) (c4_i32_269 : BitVec 32) (c1_i32_270 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v318 : BitVec 32 := Scalar.xori v2 c4_i32_269
  let v319 : BitVec 32 := Scalar.xori v318 c1_i32_270
  let c2048_i32_272 : BitVec 32 := 2048#32
  let v321 : BitVec 32 := Scalar.muli v319 c2048_i32_272
  let c1360_i32_273 : BitVec 32 := 1360#32
  let v322 : BitVec 32 := Scalar.addi v321 c1360_i32_273
  let c0_i32_278 : BitVec 32 := 0#32
  ![v322.toNat, 0]
def k0_off7_at (r : Fin 3) : BitVec 32 × BitVec 32 :=
  if r.val < 1 then
    (4#32, 1#32)
  else
    if r.val < 2 then
      (4#32, 3#32)
    else
      (1#32, 3#32)
def k0_dev23 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_281 : BitVec 32 := 3#32
  let v330 : BitVec 32 := Scalar.xori v2 c3_i32_281
  let c1_i32_285 : BitVec 32 := 1#32
  let v333 : BitVec 32 := Scalar.muli v330 c1_i32_285
  let v334 : BitVec 32 := Scalar.addi c0_i32_286 v333
  v334.toNat
def k0_dev24 (d0 : Dev nD) : Nat :=
  let c0_i32_296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_291 : BitVec 32 := 3#32
  let v343 : BitVec 32 := Scalar.xori v2 c3_i32_291
  let c1_i32_295 : BitVec 32 := 1#32
  let v346 : BitVec 32 := Scalar.muli v343 c1_i32_295
  let v347 : BitVec 32 := Scalar.addi c0_i32_296 v346
  v347.toNat
def k0_off8 (d0 : Dev nD) (c1_i32_331 : BitVec 32) (c3_i32_332 : BitVec 32) (c4_i32_333 : BitVec 32) (c0_i32_336 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v386 : BitVec 32 := Scalar.xori v2 c1_i32_331
  let v387 : BitVec 32 := Scalar.xori v386 c3_i32_332
  let v388 : BitVec 32 := Scalar.xori v387 c4_i32_333
  let c2048_i32_335 : BitVec 32 := 2048#32
  let v390 : BitVec 32 := Scalar.muli v388 c2048_i32_335
  let v391 : BitVec 32 := Scalar.addi v390 c0_i32_336
  let c0_i32_341 : BitVec 32 := 0#32
  ![v391.toNat, 0]
def k0_off8_at (r : Fin 2) : BitVec 32 × BitVec 32 × BitVec 32 × BitVec 32 :=
  if r.val < 1 then
    (1#32, 3#32, 4#32, 0#32)
  else
    (3#32, 4#32, 1#32, 680#32)
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_419 : BitVec 32 := 4#32
  let v474 : BitVec 32 := Scalar.xori v2 c4_i32_419
  let c1_i32_420 : BitVec 32 := 1#32
  let v475 : BitVec 32 := Scalar.xori v474 c1_i32_420
  let c3_i32_421 : BitVec 32 := 3#32
  let v476 : BitVec 32 := Scalar.xori v475 c3_i32_421
  let c2048_i32_423 : BitVec 32 := 2048#32
  let v478 : BitVec 32 := Scalar.muli v476 c2048_i32_423
  let c1360_i32_424 : BitVec 32 := 1360#32
  let v479 : BitVec 32 := Scalar.addi v478 c1360_i32_424
  let c0_i32_429 : BitVec 32 := 0#32
  ![v479.toNat, 0]
-- ==== ReferenceIdeal.lean ====
abbrev S16384x512 : Shape := ⟨2, ![16384, 512]⟩

abbrev nBuf : Space → Nat
  | .hbm => 1
  | .vmem => 0
  | .smem => 0
  | _ => 0

abbrev bufTy : (tb : Table) → Fin (tcTables nBuf tb) → BufTy
  | .hbm, ⟨0, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Ways.lean ====
/-
  The messages of the hypercube all-gather, as plain finite mathematics: eight devices named by
  three bits, three parts of the rows, seven messages per part; for each message the direction it
  crosses, the block it carries and the buffer part it is read from; and the order in which a
  device's program sends, receives and settles them. Also the closed forms of the printed device
  and offset chains in those terms.
-/
module

public import proofs.«01_k».proof.Proof.Gen.KernelIdeal
public import proofs.«01_k».proof.Proof.Gen.KernelIdeal.Skeleton

@[expose] public section

noncomputable section

namespace Cert.Cube

open Cert.KernelIdeal Cert.KernelIdeal.Gen
open Idealize.ShloMosaic Idealize.SL.Sem

/-- A message: the part of the rows it carries and its number among that part's seven. -/
abbrev Msg : Type := Fin 3 × Fin 7

/-- The device on the other side of `c` along the bit pattern `a`. -/
def across (a : Fin 8) (c : Dev nD) : Dev nD := ⟨(c.val ^^^ a.val) % 8, Nat.mod_lt _ (by decide)⟩

/-- Two bit patterns added. -/
def mix (a b : Fin 8) : Fin 8 := ⟨(a.val ^^^ b.val) % 8, Nat.mod_lt _ (by decide)⟩

/-- The pattern part `p` crosses at its step `s`. -/
def step (p s : Fin 3) : Fin 8 := (![![1, 3, 4], ![3, 4, 1], ![4, 1, 3]] : Fin 3 → Fin 3 → Fin 8) p s

/-- The pattern a message crosses from its sender to its receiver. -/
def link (t : Msg) : Fin 8 := step t.1 ((![0, 1, 1, 2, 2, 2, 2] : Fin 7 → Fin 3) t.2)

/-- The block a message carries, as a pattern from its receiver. -/
def orig (t : Msg) : Fin 8 :=
  (![step t.1 0, step t.1 1, mix (step t.1 0) (step t.1 1), step t.1 2, mix (step t.1 0) (step t.1 2),
    mix (step t.1 1) (step t.1 2), mix (mix (step t.1 0) (step t.1 1)) (step t.1 2)] : Fin 7 → Fin 8) t.2

/-- Where a message's number is read from: nothing for the device's own operand, or the number of the earlier
    message of the same part that brought what it forwards, and which half of the right to read that. -/
def via : Fin 7 → Option (Fin 7 × Bool) :=
  ![none, none, some (0, false), none, some (0, true), some (1, false), some (2, false)]

/-- The block a message carries, as the device its sender `c` names it by. -/
def carried (c : Dev nD) (t : Msg) : Dev nD :=
  match via t.2 with
  | none => c
  | some (j, _) => across (orig (t.1, j)) c

theorem across_across (a : Fin 8) (c : Dev nD) : across a (across a c) = c := by revert a c; decide
theorem across_zero (c : Dev nD) : across 0 c = c := by revert c; decide
theorem across_inj {a b : Fin 8} {c : Dev nD} (h : across a c = across b c) : a = b := by revert a b c; decide
/-- Sender and receiver agree on the block a message carries. -/
theorem carried_eq (c : Dev nD) (t : Msg) : carried c t = across (orig t) (across (link t) c) := by
  revert c t; decide
/-- No message brings a device its own block. -/
theorem orig_ne_zero (t : Msg) : orig t ≠ 0 := by revert t; decide
/-- Every other block reaches a device once per part. -/
theorem orig_inj (p : Fin 3) {i j : Fin 7} (h : orig (p, i) = orig (p, j)) : i = j := by revert p i j; decide
theorem exists_orig (p : Fin 3) (b : Fin 8) (h : b ≠ 0) : ∃ i, orig (p, i) = b := by revert p b; decide
theorem exists_across (c d : Dev nD) : ∃ a, across a c = d := by revert c d; decide

/-- Crossing a pattern, as a permutation of the devices. -/
def flip (a : Fin 8) : Dev nD ≃ Dev nD := ⟨across a, across a, across_across a, across_across a⟩

/-! ## The program's order -/

/-- What a device does with a message: send it, wait for its arrival, wait for its source to be free again. -/
inductive Act
  | send (t : Msg)
  | take (t : Msg)
  | free (t : Msg)

/-- The sends and arrivals, in the program's order. -/
def courses : List Act :=
  [.send (0, 0), .send (1, 0), .send (2, 0), .send (0, 1), .send (1, 1), .send (2, 1), .send (0, 3), .send (1, 3), .send (2, 3),
   .take (0, 0), .send (0, 2), .take (1, 0), .send (1, 2), .take (2, 0), .send (2, 2), .send (0, 4), .send (1, 4), .send (2, 4),
   .take (0, 1), .take (0, 2), .send (0, 5), .send (0, 6), .take (1, 1), .take (1, 2), .send (1, 5), .send (1, 6),
   .take (2, 1), .take (2, 2), .send (2, 5), .send (2, 6),
   .take (0, 3), .take (0, 4), .take (0, 5), .take (0, 6), .take (1, 3), .take (1, 4), .take (1, 5), .take (1, 6),
   .take (2, 3), .take (2, 4), .take (2, 5), .take (2, 6)]

/-- The settling of every send, part by part. -/
def settles : List Act :=
  [.free (0, 0), .free (0, 1), .free (0, 2), .free (0, 3), .free (0, 4), .free (0, 5), .free (0, 6),
   .free (1, 0), .free (1, 1), .free (1, 2), .free (1, 3), .free (1, 4), .free (1, 5), .free (1, 6),
   .free (2, 0), .free (2, 1), .free (2, 2), .free (2, 3), .free (2, 4), .free (2, 5), .free (2, 6)]

/-! ## Rows -/

/-- How many rows a part has, -/
def rows (p : Fin 3) : ℕ := (![680, 680, 688] : Fin 3 → ℕ) p
/-- and at which row of a block it starts. -/
def lead (p : Fin 3) : ℕ := (![0, 680, 1360] : Fin 3 → ℕ) p

/-- The shape of a part. -/
abbrev Part (p : Fin 3) : Shape := ⟨2, ![rows p, 512]⟩

/-- Where part `p` of block `b` starts in the gathered array. -/
def place (b : Dev nD) (p : Fin 3) : Fin 2 → ℕ := ![2048 * b.val + lead p, 0]

theorem place_inb (b : Dev nD) (p : Fin 3) : ∀ a, place b p a + (Part p).size a ≤ S16384x512.size a := by
  revert b p; decide
theorem lead_inb (p : Fin 3) : ∀ a, (![lead p, 0] : Fin 2 → ℕ) a + (Part p).size a ≤ S2048x512.size a := by
  revert p; decide
theorem rows_pos (p : Fin 3) : 0 < (Part p).numel := by revert p; decide

/-! ## The printed chains -/

theorem off2_at (d : Dev nD) (p : Fin 2) : k0_off2 d (BitVec.ofNat 32 (680 * p.val)) = place d p.castSucc := by
  revert d p; decide +kernel
theorem off3_at (d : Dev nD) : k0_off3 d = place d 2 := by revert d; decide +kernel
theorem off4_at (d : Dev nD) (a : Fin 8) (p : Fin 2) :
    k0_off4 d (BitVec.ofNat 32 a.val) (BitVec.ofNat 32 (680 * p.val)) = place (across a d) p.castSucc := by
  revert d a p; decide +kernel
theorem off5_at (d : Dev nD) (a : Fin 8) : k0_off5 d (BitVec.ofNat 32 a.val) = place (across a d) 2 := by
  revert d a; decide +kernel
theorem off6_at (d : Dev nD) (a b : Fin 8) (p : Fin 2) :
    k0_off6 d (BitVec.ofNat 32 a.val) (BitVec.ofNat 32 b.val) (BitVec.ofNat 32 (680 * p.val))
      = place (across (mix a b) d) p.castSucc := by
  revert d a b p; decide +kernel
theorem off7_at (d : Dev nD) (a b : Fin 8) :
    k0_off7 d (BitVec.ofNat 32 a.val) (BitVec.ofNat 32 b.val) = place (across (mix a b) d) 2 := by
  revert d a b; decide +kernel
theorem off8_at0 (d : Dev nD) : k0_off8 d 1#32 3#32 4#32 0#32 = place (across 6 d) 0 := by revert d; decide +kernel
theorem off8_at1 (d : Dev nD) : k0_off8 d 3#32 4#32 1#32 680#32 = place (across 6 d) 1 := by revert d; decide +kernel
theorem off9_at (d : Dev nD) : k0_off9 d = place (across 6 d) 2 := by revert d; decide +kernel

end Cert.Cube

end
-- ==== Proof.Text.lean ====
/-
  The kernel's body as a list of messages sent, taken and settled: the memrefs and semaphores of a
  message, the operation each act is, and the proof that the printed body is the entry handshake,
  the local copy, the courses, the local copy's wait and the settles.
-/
module

public import proofs.«01_k».proof.Proof.Ways

@[expose] public section

noncomputable section

namespace Cert.Cube

open Cert.KernelIdeal Cert.KernelIdeal.Gen
open Idealize.ShloMosaic Idealize.ShloMosaic.TcCoe Idealize.SL.Sem

variable {F : FTy → Type} [FloatOps F]

/-! ## Memrefs and semaphores -/

/-- A device's operand, whole, -/
abbrev xAll : Memref sig .tc .hbm S2048x512 .f32 := Memref.whole main_arg0
/-- its result, whole, -/
abbrev oAll : Memref sig .tc .hbm S16384x512 .f32 := Memref.whole main_v1
/-- part `p` of its operand, -/
abbrev xPart (p : Fin 3) : Memref sig .tc .hbm (Part p) .f32 :=
  xAll.slice (Rect.unit (s := S2048x512) ![lead p, 0] (Part p).size (lead_inb p)) (fun _ => rfl)
/-- part `p` of block `b` of its result, -/
abbrev oPart (b : Dev nD) (p : Fin 3) : Memref sig .tc .hbm (Part p) .f32 :=
  oAll.slice (Rect.unit (s := S16384x512) (place b p) (Part p).size (place_inb b p)) (fun _ => rfl)
/-- and the whole of block `b` of its result. -/
abbrev oBlock (b : Dev nD) : Memref sig .tc .hbm S2048x512 .f32 :=
  oAll.slice (Rect.unit (s := S16384x512) (k0_off1 b) S2048x512.size (k0_off1_inb b)) (fun _ => rfl)

/-- The semaphore a message completes on at its sender, -/
def sendSem (t : Msg) : DmaSem sig := (⟨1 + 7 * t.1.val + t.2.val, by omega⟩ : Fin 43)
/-- and the one at its receiver. -/
def recvSem (t : Msg) : DmaSem sig := (⟨22 + 7 * t.1.val + t.2.val, by omega⟩ : Fin 43)
/-- The local copy's. -/
def ownSem : DmaSem sig := (0 : Fin 43)

/-- The memref a message is read from at its sender `c`, -/
def srcOf (c : Dev nD) (t : Msg) : Memref sig .tc .hbm (Part t.1) .f32 :=
  match via t.2 with
  | none => xPart t.1
  | some (j, _) => oPart (across (orig (t.1, j)) c) t.1

/-- and the one `c`'s wait for its source names besides. -/
def backOf (c : Dev nD) (t : Msg) : Memref sig .tc .hbm (Part t.1) .f32 :=
  match via t.2 with
  | none => xPart t.1
  | some _ => oPart c t.1

/-! ## The acts' operations -/

/-- The operation an act is on device `c`. -/
def Act.eff (c : Dev nD) : Act → TpuEff nD τ sig (Elt F) Λ₀ .tc PUnit
  | .send t => .enqueueDma (srcOf c t) (.remote (Dev.tc (across (link t) c)) (oPart (carried c t) t.1) (.dma (sendSem t)))
      (.dma (recvSem t)) (View.wordExact_bits rfl) (View.wordExact_bits rfl) ⟨⟨rfl, Or.inl rfl⟩, trivial⟩
  | .take t => .waitDma2 (recvSem t) (oPart (across (orig t) c) t.1) (oPart (across (orig t) c) t.1)
      (View.wordExact_bits rfl) (View.wordExact_bits rfl)
  | .free t => .waitDma2 (sendSem t) (oPart c t.1) (backOf c t) (View.wordExact_bits rfl) (View.wordExact_bits rfl)

/-- A list of acts, then the rest of the program. -/
def acts (c : Dev nD) : List Act → Prog (TpuEff nD τ sig (Elt F) Λ₀ .tc) PUnit → Prog (TpuEff nD τ sig (Elt F) Λ₀ .tc) PUnit
  | [], k => k
  | a :: l, k => .op (a.eff c) fun _ => acts c l k

/-! ## The printed operations

Each printed operation is an act's as soon as its device and offset chains have the act's closed forms; the act comes
first in each equation, so that the printed text is read off against a known message. -/

section Ops
variable {c : Dev nD} {l : List Act} {k : Prog (TpuEff nD τ sig (Elt F) Λ₀ .tc) PUnit}
  {k' : PUnit → Prog (TpuEff nD τ sig (Elt F) Λ₀ .tc) PUnit}

/-- A send out of the operand. -/
theorem text_send_x (t : Msg) {dv : ℕ} {hdv : dv < nD} {o o' : Fin 2 → ℕ} {inb inb'} {w w' ty}
    (hv : via t.2 = none) (hd : dv = (across (link t) c).val) (ho : o = place (carried c t) t.1) (ho' : o' = ![lead t.1, 0])
    (hk : acts c l k = k' ⟨⟩) :
    acts c (.send t :: l) k = .op (.enqueueDma
      (xAll.slice (Rect.unit (s := S2048x512) o' (Part t.1).size inb') (fun _ => rfl) : Memref sig .tc .hbm (Part t.1) .f32)
      (.remote (Dev.tc (⟨dv, hdv⟩ : Dev nD))
        (oAll.slice (Rect.unit (s := S16384x512) o (Part t.1).size inb) (fun _ => rfl) : Memref sig .tc .hbm (Part t.1) .f32)
        (.dma (sendSem t))) (.dma (recvSem t)) w w' ty) k' := by
  subst hd ho ho'
  have hs : srcOf c t = xPart t.1 := by unfold srcOf; rw [hv]
  show Prog.op _ _ = _
  simp only [Act.eff, hs, hk]

/-- A send out of a part that came earlier. -/
theorem text_send_o (t : Msg) {j : Fin 7} {b : Bool} {dv : ℕ} {hdv : dv < nD} {o : Fin 2 → ℕ} {inb inb'} {w w' ty}
    (hv : via t.2 = some (j, b)) (hd : dv = (across (link t) c).val) (ho : o = place (carried c t) t.1)
    (hk : acts c l k = k' ⟨⟩) :
    acts c (.send t :: l) k = .op (.enqueueDma
      (oAll.slice (Rect.unit (s := S16384x512) o (Part t.1).size inb') (fun _ => rfl) : Memref sig .tc .hbm (Part t.1) .f32)
      (.remote (Dev.tc (⟨dv, hdv⟩ : Dev nD))
        (oAll.slice (Rect.unit (s := S16384x512) o (Part t.1).size inb) (fun _ => rfl) : Memref sig .tc .hbm (Part t.1) .f32)
        (.dma (sendSem t))) (.dma (recvSem t)) w w' ty) k' := by
  subst hd ho
  have hs : srcOf c t = oPart (carried c t) t.1 := by unfold srcOf carried; rw [hv]
  show Prog.op _ _ = _
  simp only [Act.eff, hs, hk]

/-- A wait for a message's arrival. -/
theorem text_take (t : Msg) {o : Fin 2 → ℕ} {inb inb'} {w w'} (ho : o = place (across (orig t) c) t.1)
    (hk : acts c l k = k' ⟨⟩) :
    acts c (.take t :: l) k = .op (.waitDma2 (recvSem t)
      (oAll.slice (Rect.unit (s := S16384x512) o (Part t.1).size inb') (fun _ => rfl) : Memref sig .tc .hbm (Part t.1) .f32)
      (oAll.slice (Rect.unit (s := S16384x512) o (Part t.1).size inb) (fun _ => rfl) : Memref sig .tc .hbm (Part t.1) .f32) w w') k' := by
  subst ho
  show Prog.op _ _ = _
  simp only [Act.eff, hk]
  rfl

/-- A wait for a message's source, read from the operand, -/
theorem text_free_x (t : Msg) {o o' : Fin 2 → ℕ} {inb inb'} {w w'} (hv : via t.2 = none) (ho : o = place c t.1) (ho' : o' = ![lead t.1, 0])
    (hk : acts c l k = k' ⟨⟩) :
    acts c (.free t :: l) k = .op (.waitDma2 (sendSem t)
      (oAll.slice (Rect.unit (s := S16384x512) o (Part t.1).size inb) (fun _ => rfl) : Memref sig .tc .hbm (Part t.1) .f32)
      (xAll.slice (Rect.unit (s := S2048x512) o' (Part t.1).size inb') (fun _ => rfl) : Memref sig .tc .hbm (Part t.1) .f32) w w') k' := by
  subst ho ho'
  have hs : backOf c t = xPart t.1 := by unfold backOf; rw [hv]
  show Prog.op _ _ = _
  simp only [Act.eff, hs, hk]
  rfl

/-- or from the result. -/
theorem text_free_o (t : Msg) {j : Fin 7} {b : Bool} {o : Fin 2 → ℕ} {inb inb'} {w w'} (hv : via t.2 = some (j, b)) (ho : o = place c t.1)
    (hk : acts c l k = k' ⟨⟩) :
    acts c (.free t :: l) k = .op (.waitDma2 (sendSem t)
      (oAll.slice (Rect.unit (s := S16384x512) o (Part t.1).size inb) (fun _ => rfl) : Memref sig .tc .hbm (Part t.1) .f32)
      (oAll.slice (Rect.unit (s := S16384x512) o (Part t.1).size inb') (fun _ => rfl) : Memref sig .tc .hbm (Part t.1) .f32) w w') k' := by
  subst ho
  have hs : backOf c t = oPart c t.1 := by unfold backOf; rw [hv]
  show Prog.op _ _ = _
  simp only [Act.eff, hs, hk]
  rfl

end Ops

/-- The barrier semaphore. -/
abbrev barSem : Sem sig := (SemArray.scalar (sig.barrier 0 rfl) : Sems sig S_).sem

/-- The three patterns a device's neighbours are at, in the order the handshake signals them. -/
def sides : Fin 3 → Fin 8 := ![1, 3, 4]

/-- The whole body on device `c` after it has asked for its own number. -/
def script (c : Dev nD) : Prog (TpuEff nD τ sig (Elt F) Λ₀ .tc) PUnit :=
  .op (.semSignal (Dev.tc (across 1 c)) barSem 1) fun _ =>
  .op (.semSignal (Dev.tc (across 3 c)) barSem 1) fun _ =>
  .op (.semSignal (Dev.tc (across 4 c)) barSem 1) fun _ =>
  .op (.semWait barSem 3) fun _ =>
  .op (.enqueueDma xAll (.here (oBlock c)) (.dma ownSem) (Memref.isWhole_whole main_arg0).wordExact (View.wordExact_bits rfl)
    ⟨Or.inl rfl, trivial⟩) fun _ =>
  acts c courses (
  .op (.waitDma2 ownSem xAll (oBlock c) (Memref.isWhole_whole main_arg0).wordExact (View.wordExact_bits rfl)) fun _ =>
  acts c settles (.ret ⟨⟩))

theorem dev1_at (d : Dev nD) : (⟨k0_dev1 d, k0_dev1_lt d⟩ : Dev nD) = across 1 d := by revert d; decide +kernel
theorem dev2_at (d : Dev nD) : (⟨k0_dev2 d, k0_dev2_lt d⟩ : Dev nD) = across 3 d := by revert d; decide +kernel
theorem dev3_at (d : Dev nD) : (⟨k0_dev3 d, k0_dev3_lt d⟩ : Dev nD) = across 4 d := by revert d; decide +kernel

set_option maxRecDepth 65536 in
set_option maxHeartbeats 4000000 in
/-- The printed body is the script. -/
theorem body_text :
    cc0_body (F := F) xAll (Memref.isWhole_whole main_arg0) oAll (Memref.isWhole_whole main_v1) cc0_scratch0 cc0_scratch1 cc0_scratch2
      = .op .deviceId script := by
  symm
  simp only [cc0_body_eq_skeleton, cc0_body_skel, k0_part1_eq_skeleton, k0_part1_skel, k0_part2_eq_skeleton, k0_part2_skel,
    k0_part3_eq_skeleton, k0_part3_skel, k0_part4_eq_skeleton, k0_part4_skel, k0_part5_eq_skeleton, k0_part5_skel,
    k0_part6_eq_skeleton, k0_part6_skel, k0_part7_eq_skeleton, k0_part7_skel, k0_part8_eq_skeleton, k0_part8_skel,
    k0_part9_eq_skeleton, k0_part9_skel, k0_part10_eq_skeleton, k0_part10_skel, k0_part11_eq_skeleton, k0_part11_skel,
    k0_part12_eq_skeleton, k0_part12_skel, k0_part13_eq_skeleton, k0_part13_skel, k0_part14_eq_skeleton, k0_part14_skel,
    k0_part15_eq_skeleton, k0_part15_skel, k0_part16_eq_skeleton, k0_part16_skel, k0_part17_eq_skeleton, k0_part17_skel,
    k0_part18_eq_skeleton, k0_part18_skel, k0_part19_eq_skeleton, k0_part19_skel, k0_part20_eq_skeleton, k0_part20_skel,
    k0_part21_eq_skeleton, k0_part21_skel, semSignalWord, semWaitWord, Prog.lift, Prog.bind_op, Prog.bind_ret, Prog.pure_eq_ret]
  refine congrArg (Prog.op _) (funext fun d => ?_)
  simp only [dev1_at, dev2_at, dev3_at]
  refine congrArg (Prog.op _) (funext fun _ => congrArg (Prog.op _) (funext fun _ => congrArg (Prog.op _) (funext fun _ =>
    congrArg (Prog.op _) (funext fun _ => congrArg (Prog.op _) (funext fun _ => ?_)))))
  unfold courses settles
  repeat' first
    | refine text_take _ ?_ ?_
    | refine text_send_x _ rfl ?_ ?_ rfl ?_
    | refine text_send_o _ rfl ?_ ?_ ?_
    | refine text_free_x _ rfl ?_ rfl ?_
    | refine text_free_o _ rfl ?_ ?_
    | (revert d; decide +kernel)
    | refine congrArg (Prog.op _) (funext fun _ => ?_)
    | rfl

end Cert.Cube

end
-- ==== Proof.Places.lean ====
/-
  Where everything lies: which elements of the result the parts and blocks are, the array the
  devices gather, and what a transfer leaves behind — the gathered array on the elements it wrote.
-/
module

public import proofs.«01_k».proof.Proof.Text
public import Idealize.ShloMosaic.Lib.Pipeline.ValueKit.Geometry

@[expose] public section

noncomputable section

namespace Cert.Cube

open Cert.KernelIdeal Cert.KernelIdeal.Gen
open Idealize.ShloMosaic Idealize.ShloMosaic.TcCoe Idealize.SL.Sem

variable {F : FTy → Type}

/-! ## Element sets -/

theorem off1_at (d : Dev nD) : k0_off1 d = ![2048 * d.val, 0] := by revert d; decide +kernel

/-- A part of a block is a run of whole rows, -/
theorem mem_oPart (b : Dev nD) (p : Fin 3) (i : S16384x512.Idx) :
    i ∈ (oPart b p).view.set ↔ 2048 * b.val + lead p ≤ (i 0).val ∧ (i 0).val < 2048 * b.val + lead p + rows p := by
  refine ValueKit.mem_set_slice_whole_iff main_v1 _ i (Rect.mem_set_unit.trans (Fin.forall_fin_two.trans ?_))
  have h : (i 1).val < 512 := (i 1).isLt
  exact ⟨fun h => h.1, fun h' => ⟨h', Nat.zero_le _, by show (i 1).val < 0 + 512; omega⟩⟩

/-- so is the block, -/
theorem mem_oBlock (b : Dev nD) (i : S16384x512.Idx) :
    i ∈ (oBlock b).view.set ↔ 2048 * b.val ≤ (i 0).val ∧ (i 0).val < 2048 * b.val + 2048 := by
  refine ValueKit.mem_set_slice_whole_iff main_v1 _ i (Rect.mem_set_unit.trans (Fin.forall_fin_two.trans ?_))
  have h : (i 1).val < 512 := (i 1).isLt
  rw [off1_at]
  exact ⟨fun h => h.1, fun h' => ⟨h', Nat.zero_le _, by show (i 1).val < 0 + 512; omega⟩⟩

/-- and a part of the operand. -/
theorem mem_xPart (p : Fin 3) (i : S2048x512.Idx) :
    i ∈ (xPart p).view.set ↔ lead p ≤ (i 0).val ∧ (i 0).val < lead p + rows p := by
  refine ValueKit.mem_set_slice_whole_iff main_arg0 _ i (Rect.mem_set_unit.trans (Fin.forall_fin_two.trans ?_))
  have h : (i 1).val < 512 := (i 1).isLt
  exact ⟨fun h => h.1, fun h' => ⟨h', Nat.zero_le _, by show (i 1).val < 0 + 512; omega⟩⟩

theorem lead_rows (p : Fin 3) : lead p + rows p ≤ 2048 := by revert p; decide
theorem lead_disj {p q : Fin 3} (h : p ≠ q) : lead p + rows p ≤ lead q ∨ lead q + rows q ≤ lead p := by
  revert p q; decide
/-- Every row of a block is in a part. -/
theorem exists_part (n : ℕ) (h : n < 2048) : ∃ p, lead p ≤ n ∧ n < lead p + rows p := by
  by_cases h0 : n < 680
  · exact ⟨0, Nat.zero_le _, by show n < 0 + 680; omega⟩
  by_cases h1 : n < 1360
  · exact ⟨1, by show 680 ≤ n; omega, by show n < 680 + 680; omega⟩
  · exact ⟨2, by show 1360 ≤ n; omega, by show n < 1360 + 688; omega⟩

/-- The parts of the operand are disjoint -/
theorem xPart_disjoint {p q : Fin 3} (h : p ≠ q) : Disjoint (xPart p).view.set (xPart q).view.set :=
  Finset.disjoint_left.mpr fun i hi hj => by
    have hi := (mem_xPart p i).mp hi
    have hj := (mem_xPart q i).mp hj
    have := lead_disj h
    omega
/-- and are all of it. -/
theorem xPart_cover : Finset.univ.biUnion (fun p => (xPart p).view.set) = (Finset.univ : Finset S2048x512.Idx) :=
  Finset.eq_univ_iff_forall.mpr fun i => by
    obtain ⟨p, hp⟩ := exists_part (i 0).val (i 0).isLt
    exact Finset.mem_biUnion.mpr ⟨p, Finset.mem_univ p, (mem_xPart p i).mpr hp⟩

/-- What a message brings device `d`, as elements of the result. -/
abbrev spotSet (d : Dev nD) (t : Msg) : Finset S16384x512.Idx := (oPart (across (orig t) d) t.1).view.set

/-- Two messages bring a device different elements, -/
theorem spot_disjoint (d : Dev nD) {t u : Msg} (h : t ≠ u) : Disjoint (spotSet d t) (spotSet d u) :=
  Finset.disjoint_left.mpr fun i hi hj => by
    have hi := (mem_oPart _ _ i).mp hi
    have hj := (mem_oPart _ _ i).mp hj
    have h1 := lead_rows t.1
    have h2 := lead_rows u.1
    by_cases hp : t.1 = u.1
    · have hd : across (orig t) d ≠ across (orig u) d := fun e => h <| by
        obtain ⟨p, i⟩ := t
        obtain ⟨q, j⟩ := u
        obtain rfl : p = q := hp
        rw [orig_inj p (across_inj e)]
      have hv : (across (orig t) d).val ≠ (across (orig u) d).val := fun e => hd (Fin.ext e)
      omega
    · have := lead_disj hp
      omega

/-- none of them of its own block, -/
theorem spot_block (d : Dev nD) (t : Msg) : Disjoint (oBlock d).view.set (spotSet d t) :=
  Finset.disjoint_left.mpr fun i hi hj => by
    have hi := (mem_oBlock _ i).mp hi
    have hj := (mem_oPart _ _ i).mp hj
    have h1 := lead_rows t.1
    have hv : d.val ≠ (across (orig t) d).val := fun e =>
      orig_ne_zero t (across_inj (c := d) (by rw [across_zero]; exact (Fin.ext e).symm))
    omega

/-- and all the rest. -/
theorem spot_cover (d : Dev nD) : Finset.univ.biUnion (spotSet d) = (Finset.univ : Finset S16384x512.Idx) \ (oBlock d).view.set := by
  ext i
  rw [Finset.mem_biUnion, Finset.mem_sdiff]
  constructor
  · rintro ⟨t, -, ht⟩
    exact ⟨Finset.mem_univ i, fun h => Finset.disjoint_left.mp (spot_block d t) h ht⟩
  · rintro ⟨-, h⟩
    rw [mem_oBlock] at h
    have hlt : (i 0).val < 16384 := (i 0).isLt
    obtain ⟨p, hp⟩ := exists_part ((i 0).val % 2048) (Nat.mod_lt _ (by decide))
    obtain ⟨a, ha⟩ := exists_across d (⟨(i 0).val / 2048, by show _ < 8; omega⟩ : Dev nD)
    have hv := congrArg Fin.val ha
    obtain ⟨j, hj⟩ := exists_orig p a fun h0 => h (by
      rw [h0, across_zero] at hv
      have : d.val = (i 0).val / 2048 := hv
      omega)
    refine ⟨(p, j), Finset.mem_univ _, (mem_oPart _ _ i).mpr ?_⟩
    show 2048 * (across (orig (p, j)) d).val + lead p ≤ _ ∧ _ < 2048 * (across (orig (p, j)) d).val + lead p + rows p
    rw [hj, hv]
    show 2048 * ((i 0).val / 2048) + lead p ≤ _ ∧ _ < 2048 * ((i 0).val / 2048) + lead p + rows p
    omega

/-! ## Contents -/

/-- The contents of the operands of all devices. -/
abbrev Operands (F : FTy → Type) : Type := Dev nD → (main_arg0 : Ref sig .tc).ty.Contents (Elt F)
/-- The contents of a result. -/
abbrev Result (F : FTy → Type) : Type := (main_v1 : Ref sig .tc).ty.Contents (Elt F)

/-- Where element `i` of the gathered array lies within its block. -/
def within (i : S16384x512.Idx) : S2048x512.Idx :=
  fun a => ⟨(![(i 0).val % 2048, (i 1).val] : Fin 2 → ℕ) a, by
    have h : (i 1).val < 512 := (i 1).isLt
    revert a
    exact Fin.forall_fin_two.mpr ⟨Nat.mod_lt _ (by decide), h⟩⟩
/-- The block it lies in. -/
def blockOf (i : S16384x512.Idx) : Dev nD := ⟨(i 0).val / 2048, by have h : (i 0).val < 16384 := (i 0).isLt; show _ < 8; omega⟩

/-- The gathered array: the operands one after the other. -/
def gathered (X : Operands F) : Result F := fun i => X (blockOf i) (within i)

/-- The gathered array at row `r` of block `b`. -/
theorem gathered_at (X : Operands F) (b : Dev nD) (i : S16384x512.Idx) (k : S2048x512.Idx)
    (h0 : (i 0).val = 2048 * b.val + (k 0).val) (h1 : (i 1).val = (k 1).val) : gathered X i = X b k := by
  have hk : (k 0).val < 2048 := (k 0).isLt
  have hb : blockOf i = b := Fin.ext (by show (i 0).val / 2048 = b.val; omega)
  have hw : within i = k := funext fun a => by
    revert a
    exact Fin.forall_fin_two.mpr ⟨Fin.ext (by show (i 0).val % 2048 = (k 0).val; omega), Fin.ext h1⟩
  unfold gathered
  rw [hb, hw]

/-- A part of the operand lands as the gathered array, -/
theorem land_x (X : Operands F) (b : Dev nD) (p : Fin 3) (fd : Result F) :
    ∀ i ∈ (oPart b p).view.set,
      (oPart b p).view.write (Elt F) fd ((xPart p).view.read (Elt F) (X b)) Finset.univ i = gathered X i := fun i hi => by
  obtain ⟨y, -, rfl⟩ := Finset.mem_map.mp hi
  rw [View.write_emb_of_mem _ _ (Finset.mem_univ y), View.read_apply, cast_cast, cast_eq]
  refine (gathered_at X b _ ((xPart p).view.emb y) ?_ ?_).symm
  · refine (ValueKit.view_emb_slice_whole_unit_val main_v1 _ _ _ y 0).trans ?_
    rw [show ((xPart p).view.emb y 0).val = lead p + (y 0).val from
      ValueKit.view_emb_slice_whole_unit_val main_arg0 _ _ _ y 0]
    show 2048 * b.val + lead p + (y 0).val = _
    omega
  · refine (ValueKit.view_emb_slice_whole_unit_val main_v1 _ _ _ y 1).trans ?_
    rw [show ((xPart p).view.emb y 1).val = 0 + (y 1).val from
      ValueKit.view_emb_slice_whole_unit_val main_arg0 _ _ _ y 1]
    rfl

/-- the whole operand too, -/
theorem land_block (X : Operands F) (b : Dev nD) (fd : Result F) :
    ∀ i ∈ (oBlock b).view.set,
      (oBlock b).view.write (Elt F) fd (xAll.view.read (Elt F) (X b)) Finset.univ i = gathered X i := fun i hi => by
  obtain ⟨y, -, rfl⟩ := Finset.mem_map.mp hi
  rw [View.write_emb_of_mem _ _ (Finset.mem_univ y), View.read_apply, cast_cast, cast_eq]
  refine (gathered_at X b _ y ?_ ?_).symm
  · refine (ValueKit.view_emb_slice_whole_unit_val main_v1 _ _ _ y 0).trans ?_
    show k0_off1 b 0 + (y 0).val = _
    rw [off1_at]; rfl
  · refine (ValueKit.view_emb_slice_whole_unit_val main_v1 _ _ _ y 1).trans ?_
    show k0_off1 b 1 + (y 1).val = _
    rw [off1_at]; exact Nat.zero_add _

/-- and a part of the gathered array as itself. -/
theorem land_o (G : Result F) (b : Dev nD) (p : Fin 3) (fd : Result F) :
    ∀ i ∈ (oPart b p).view.set,
      (oPart b p).view.write (Elt F) fd ((oPart b p).view.read (Elt F) G) Finset.univ i = G i := fun i hi => by
  obtain ⟨y, -, rfl⟩ := Finset.mem_map.mp hi
  rw [View.write_emb_of_mem _ _ (Finset.mem_univ y), View.read_apply, cast_cast, cast_eq]

end Cert.Cube

end
-- ==== Proof.Sched.lean ====
/-
  The protocol of the gather: what each semaphore's single round hands over — a neighbour's
  landing places with each of its signals, a landed part with each arrival, a message's source
  with its settling —, what each device owes at the start, and the levels that order its waits.
-/
module

public import proofs.«01_k».proof.Proof.Places
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra: the launch's own copy beside the gather's -/

abbrev UG : Type := URounds (GSem nD τ sig) (Fin 3)
abbrev UU : Type := UR sig nD τ × UG

local notation "𝕄" => MT nD τ sig Unit (Elt F) ℕ UU ℕ

abbrev EP : Emb (UR sig nD τ) (MT nD τ sig Unit (Elt F) ℕ UU ℕ) := embL
abbrev EG : Emb UG (MT nD τ sig Unit (Elt F) ℕ UU ℕ) := embR

/-! ## Cells -/

/-- A device's own semaphores: the local copy's, each message's at its sender, each message's at its receiver. -/
abbrev Own : Type := Unit ⊕ Msg ⊕ Msg

/-- The semaphore of each. -/
def dmaOf : Own → DmaSem sig
  | .inl _ => ownSem
  | .inr (.inl t) => sendSem t
  | .inr (.inr t) => recvSem t

/-- The message numbered `n` of the twenty-one. -/
def nth (n : ℕ) : Msg := (⟨n / 7 % 3, Nat.mod_lt _ (by decide)⟩, ⟨n % 7, Nat.mod_lt _ (by decide)⟩)

/-- Whose a semaphore is. -/
def kind (k : DmaSem sig) : Own :=
  if k.val = 0 then .inl () else if k.val < 22 then .inr (.inl (nth (k.val - 1))) else .inr (.inr (nth (k.val - 22)))

theorem kind_dmaOf (o : Own) : kind (dmaOf o) = o := by revert o; decide +kernel
theorem dmaOf_inj {o o' : Own} (h : dmaOf o = dmaOf o') : o = o' := by rw [← kind_dmaOf o, h, kind_dmaOf]

/-- All the semaphores of a device, the runtime's barrier among them. -/
abbrev Lane : Type := Unit ⊕ Own
def laneSem : Lane → SemLoc sig
  | .inl _ => .reg barSem
  | .inr o => .dma (dmaOf o)

abbrev cell (ck : Dev nD × Lane) : GSem nD τ sig := ((ck.1 : Thread nD τ), laneSem ck.2)
abbrev barCell (c : Dev nD) : GSem nD τ sig := cell (c, .inl ())
abbrev ownCell (c : Dev nD) : GSem nD τ sig := cell (c, .inr (.inl ()))
abbrev sendCell (c : Dev nD) (t : Msg) : GSem nD τ sig := cell (c, .inr (.inr (.inl t)))
abbrev recvCell (c : Dev nD) (t : Msg) : GSem nD τ sig := cell (c, .inr (.inr (.inr t)))

theorem laneSem_inj {k k' : Lane} (h : laneSem k = laneSem k') : k = k' := by
  rcases k with ⟨⟩ | o <;> rcases k' with ⟨⟩ | o'
  · rfl
  · cases h
  · cases h
  · exact congrArg _ (dmaOf_inj (by injection h))

theorem cell_inj {x y : Dev nD × Lane} (h : cell x = cell y) : x = y := by
  obtain ⟨c, k⟩ := x
  obtain ⟨c', k'⟩ := y
  have h1 : c = c' := congrArg (fun g : GSem nD τ sig => g.1.1) h
  have h2 : k = k' := laneSem_inj (congrArg Prod.snd h)
  rw [h1, h2]

/-- The amount a semaphore of the device's own goes by. -/
def amountOf : Own → ℕ
  | .inl _ => (oBlock 0).view.dmaCredit
  | .inr (.inl t) => (oPart 0 t.1).view.dmaCredit
  | .inr (.inr t) => (oPart 0 t.1).view.dmaCredit

/-- A message's amount. -/
abbrev credit (t : Msg) : ℕ := amountOf (.inr (.inr t))

theorem amountOf_pos (o : Own) : 0 < amountOf o := by
  rcases o with ⟨⟩ | t | t
  · exact View.dmaCredit_pos _ (by decide)
  · exact View.dmaCredit_pos _ (rows_pos t.1)
  · exact View.dmaCredit_pos _ (rows_pos t.1)

/-! ## What is held -/

/-- Part `p` of block `b` of device `d`'s result. -/
def partPts (d b : Dev nD) (p : Fin 3) (q : PosShare TreeShare) (f : Result F) : sProp 𝕄 :=
  (oPart b p).view.loc (d : Thread nD τ) ↦[(oPart b p).view.set]{q} f
/-- The own block of device `d`'s result. -/
def blockPts (d : Dev nD) (f : Result F) : sProp 𝕄 :=
  (oBlock d).view.loc (d : Thread nD τ) ↦[(oBlock d).view.set]{fullShare} f
/-- Device `d`'s operand at a share. -/
def wholePts (d : Dev nD) (q : PosShare TreeShare) (f : (main_arg0 : Ref sig .tc).ty.Contents (Elt F)) : sProp 𝕄 :=
  (xAll : Memref sig .tc .hbm S2048x512 .f32).view.loc (d : Thread nD τ) ↦[(xAll : Memref sig .tc .hbm S2048x512 .f32).view.set]{q} f
/-- Part `p` of it. -/
def sharePts (d : Dev nD) (p : Fin 3) (q : PosShare TreeShare) (f : (main_arg0 : Ref sig .tc).ty.Contents (Elt F)) : sProp 𝕄 :=
  (xPart p).view.loc (d : Thread nD τ) ↦[(xPart p).view.set]{q} f

instance partPts_storable (d b : Dev nD) (p : Fin 3) (q : PosShare TreeShare) (f : Result F) :
    BI.Storable (upEmb : UEmb _ 𝕄) (partPts d b p q f) := by unfold partPts; infer_instance
instance blockPts_storable (d : Dev nD) (f : Result F) : BI.Storable (upEmb : UEmb _ 𝕄) (blockPts d f) := by
  unfold blockPts; infer_instance
instance wholePts_storable (d : Dev nD) (q : PosShare TreeShare) (f : (main_arg0 : Ref sig .tc).ty.Contents (Elt F)) :
    BI.Storable (upEmb : UEmb _ 𝕄) (wholePts d q f) := by unfold wholePts; infer_instance
instance sharePts_storable (d : Dev nD) (p : Fin 3) (q : PosShare TreeShare) (f : (main_arg0 : Ref sig .tc).ty.Contents (Elt F)) :
    BI.Storable (upEmb : UEmb _ 𝕄) (sharePts d p q f) := by unfold sharePts; infer_instance

/-- The right to read a message's source: a part of the operand at one of three shares, or half the right to a part
    that an earlier message brought. -/
abbrev Slot : Type := (Fin 3 × Fin 3) ⊕ (Msg × Bool)

/-- The slot a message reads. -/
def slotOf (t : Msg) : Slot :=
  match via t.2 with
  | none => .inl (t.1, (![0, 1, 0, 2, 0, 0, 0] : Fin 7 → Fin 3) t.2)
  | some (j, b) => .inr ((t.1, j), b)

/-- The three shares of the operand that messages read at, -/
def xShare (k : Fin 3) : PosShare TreeShare :=
  (![fullShare.left.left, fullShare.left.right, fullShare.right.left] : Fin 3 → PosShare TreeShare) k
/-- the one the local copy reads at, -/
def homeShare : PosShare TreeShare := fullShare.right.right
/-- and the two halves of the right to a landed part. -/
def halfShare (b : Bool) : PosShare TreeShare := if b then fullShare.right else fullShare.left

variable (X : Operands F)

/-- What a slot is on device `c`. -/
def slotPts (c : Dev nD) : Slot → sProp 𝕄
  | .inl (p, k) => sharePts c p (xShare k) (X c)
  | .inr (u, b) => partPts c (across (orig u) c) u.1 (halfShare b) (gathered X)

instance slotPts_storable (c : Dev nD) (s : Slot) : BI.Storable (upEmb : UEmb _ 𝕄) (slotPts X c s) := by
  rcases s with ⟨p, k⟩ | ⟨u, b⟩ <;> unfold slotPts <;> infer_instance

/-- The place message `t` lands at on device `d`, at some contents. -/
def spot (d : Dev nD) (t : Msg) : sProp 𝕄 := iprop(∃ f : Result F, partPts d (across (orig t) d) t.1 fullShare f)

instance spot_storable (d : Dev nD) (t : Msg) : BI.Storable (upEmb : UEmb _ 𝕄) (spot (F := F) d t) := by
  unfold spot; infer_instance

/-! ## The schedule -/

/-- What neighbour `i`'s signal hands device `c`: the places at that neighbour where `c`'s messages to it land. -/
def barPay (c : Dev nD) (i : Fin 3) : sProp 𝕄 :=
  bigSep (Finset.univ.filter fun t : Msg => link t = sides i) fun t => spot (F := F) (across (sides i) c) t

/-- What a semaphore of device `c`'s own hands over. -/
def ownPay (c : Dev nD) : Own → sProp 𝕄
  | .inl _ => iprop(blockPts c (gathered X) ∗ wholePts c homeShare (X c))
  | .inr (.inl t) => slotPts X c (slotOf t)
  | .inr (.inr t) => partPts c (across (orig t) c) t.1 fullShare (gathered X)

instance barPay_storable (c : Dev nD) (i : Fin 3) : BI.Storable (upEmb : UEmb _ 𝕄) (barPay (F := F) c i) := by
  unfold barPay; infer_instance
instance ownPay_storable (c : Dev nD) (o : Own) : BI.Storable (upEmb : UEmb _ 𝕄) (ownPay X c o) := by
  rcases o with ⟨⟩ | t | t <;> unfold ownPay <;> infer_instance

/-- One round, round 0: three duties at a barrier cell, one unit each; one at every other, of its amount. -/
def Rd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma k => amountOf (kind k)
  payload g _ i := match g.2 with | .reg _ => barPay g.1.1 i | .dma k => ownPay X g.1.1 (kind k)
  amount_pos g _ _ _ := by
    rcases g.2 with s | k
    · exact Nat.one_pos
    · exact amountOf_pos (kind k)

instance Rd_payload_storable (g : GSem nD τ sig) (r : ℕ) (i : Fin 3) :
    BI.Storable (upEmb : UEmb _ 𝕄) ((Rd X).payload g r i) := by
  show BI.Storable upEmb (match g.2 with | .reg _ => barPay g.1.1 i | .dma k => ownPay X g.1.1 (kind k))
  split <;> infer_instance

theorem duties_bar (c : Dev nD) : (Rd X).duties (barCell c) 0 = Finset.univ := by
  dsimp only [Rd]; exact if_pos ⟨rfl, rfl⟩
theorem duties_own (c : Dev nD) (o : Own) : (Rd X).duties (cell (c, .inr o)) 0 = {0} := by
  dsimp only [Rd]; exact if_pos ⟨rfl, rfl⟩
theorem duties_later (g : GSem nD τ sig) : ∀ r, 1 ≤ r → (Rd X).duties g r = ∅ := fun r hr => if_neg fun h => by omega

theorem amount_bar (c : Dev nD) (i : Fin 3) : (Rd X).amount (barCell c) 0 i = 1 := rfl
theorem amount_own (c : Dev nD) (o : Own) (i : Fin 3) : (Rd X).amount (cell (c, .inr o)) 0 i = amountOf o :=
  congrArg amountOf (kind_dmaOf o)

theorem expect_bar (c : Dev nD) : (Rd X).expect (barCell c) 0 = 3 := by
  unfold Schedule.expect Schedule.amountOf
  rw [duties_bar]; rfl
theorem expect_own (c : Dev nD) (o : Own) : (Rd X).expect (cell (c, .inr o)) 0 = amountOf o := by
  unfold Schedule.expect Schedule.amountOf
  rw [duties_own, Finset.sum_singleton, amount_own]

theorem payload_bar (c : Dev nD) (i : Fin 3) : (Rd X).payload (barCell c) 0 i = barPay c i := rfl
theorem payload_own (c : Dev nD) (o : Own) (i : Fin 3) : (Rd X).payload (cell (c, .inr o)) 0 i = ownPay X c o :=
  congrArg (ownPay X c) (kind_dmaOf o)

/-- What a whole round hands over, at a barrier cell -/
theorem rest_bar (c : Dev nD) :
    bigSep ((Rd X).duties (barCell c) 0 \ ∅) (fun i => (Rd X).payload (barCell c) 0 i) = bigSep Finset.univ fun i => barPay (F := F) c i := by
  rw [Finset.sdiff_empty, duties_bar]; rfl
/-- and at another. -/
theorem rest_own (c : Dev nD) (o : Own) :
    bigSep ((Rd X).duties (cell (c, .inr o)) 0 \ ∅) (fun i => (Rd X).payload (cell (c, .inr o)) 0 i) = ownPay X c o := by
  rw [Finset.sdiff_empty, duties_own, bigSep_singleton, payload_own]

/-! ## What is owed, and the levels -/

/-- What device `c` owes for the messages of `S`: each one's amount, at its receiver. -/
def owed (c : Dev nD) (S : Finset Msg) : CellTallies nD τ sig Unit :=
  ∑ t ∈ S, tallyAt (recvCell (across (link t) c) t) () (credit t)
/-- What it owes for its signals. -/
def owedBar (c : Dev nD) : CellTallies nD τ sig Unit := ∑ i : Fin 3, tallyAt (barCell (across (sides i) c)) () 1
/-- What it owes at the start. -/
def owed₀ (c : Dev nD) : CellTallies nD τ sig Unit := owed c Finset.univ + owedBar c

theorem owed_erase (c : Dev nD) {S : Finset Msg} {t : Msg} (h : t ∈ S) :
    owed c S = owed c (S.erase t) + tallyAt (recvCell (across (link t) c) t) () (credit t) :=
  (Finset.sum_erase_add S _ h).symm

/-- How late in the gather a message comes. -/
def depth (t : Msg) : ℕ := (![1, 2, 2, 3, 3, 3, 3] : Fin 7 → ℕ) t.2

theorem depth_pos (t : Msg) : 0 < depth t := by revert t; decide

def L (g : GSem nD τ sig) : Finset Unit := if g.1.2 = .tc then {()} else ∅
/-- Barrier cells are lowest, then the receiving cells by how late their messages come. -/
def lv (g : GSem nD τ sig) (_ : Unit) : ℕ :=
  match g.2 with
  | .reg _ => 0
  | .dma k => match kind k with
    | .inr (.inr t) => depth t
    | _ => 4

theorem L_of_ne (g : GSem nD τ sig) (h : g.1.2 ≠ .tc) : L g = ∅ := if_neg h
theorem mem_L (x : Dev nD × Lane) : () ∈ L (cell x) := by rw [show L (cell x) = {()} from if_pos rfl]; exact Finset.mem_singleton_self _
theorem lv_recv (c : Dev nD) (t : Msg) : lv (recvCell c t) () = depth t := by
  show (match kind (dmaOf (.inr (.inr t))) with | .inr (.inr t) => depth t | _ => 4) = _
  rw [kind_dmaOf]

/-- Whatever is owed for `S` is owed at the receiver of a message of `S`. -/
theorem owed_pos {c : Dev nD} {S : Finset Msg} {g : GSem nD τ sig} {u : Unit} (h : 0 < owed c S g u) :
    ∃ t ∈ S, g = recvCell (across (link t) c) t := by
  unfold owed at h
  rw [Finset.sum_apply, Finsupp.finset_sum_apply] at h
  obtain ⟨t, ht, hp⟩ := Finset.exists_ne_zero_of_sum_ne_zero (Nat.pos_iff_ne_zero.mp h)
  rw [tallyAt_apply] at hp
  exact ⟨t, ht, by by_contra hn; exact hp (if_neg fun h' => hn h'.1)⟩

/-- Owing only for messages that come later than its level, a device may wait at a cell of its own. -/
theorem mayWait (c : Dev nD) (k : Lane) (S : Finset Msg) (h : ∀ t ∈ S, lv (cell (c, k)) () < depth t) :
    (levAts L lv : sProp 𝕄) ⊢ MayWait (c : Thread nD τ) (laneSem k) () (owed c S) :=
  MayOwe.of_cut (L := L) (lev := lv) (lv (cell (c, k)) ())
    (fun p hp => by rw [Finset.mem_singleton.mp hp]; exact mem_L (c, k))
    (fun g u hg => by obtain ⟨t, -, rfl⟩ := owed_pos hg; exact mem_L _)
    (fun p hp => by rw [Finset.mem_singleton.mp hp])
    (fun g u hg => by
      obtain ⟨t, ht, rfl⟩ := owed_pos hg
      rw [lv_recv]; exact h t ht)

end Cert.Cube

end
-- ==== Proof.Steps.lean ====
/-
  One act at a time: what a device holds between two acts, as six finite sets of messages and
  slots; that a send, an arrival and a settling each take it to the next such state; and so that a
  whole list of acts does, whenever the sets allow each act in turn.
-/
module

public import proofs.«01_k».proof.Proof.Sched

@[expose] public section

set_option synthInstance.maxSize 1000

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## States -/

/-- How far a device has come: the messages not yet sent, not yet arrived, arrived, sent and not yet settled, settled;
    and the slots it holds. -/
structure St where
  unsent : Finset Msg
  awaited : Finset Msg
  arrived : Finset Msg
  pending : Finset Msg
  settled : Finset Msg
  slots : Finset Slot

/-- Whether two states are the same, set by set. -/
def St.same (s s' : St) : Bool :=
  decide (s.unsent = s'.unsent) && decide (s.awaited = s'.awaited) && decide (s.arrived = s'.arrived)
    && decide (s.pending = s'.pending) && decide (s.settled = s'.settled) && decide (s.slots = s'.slots)

/-- A computed state is the one it compares equal to. -/
theorem St.of_same {o : Option St} {s' : St} (h : o.elim false (fun s => s.same s') = true) : o = some s' := by
  rcases o with _ | ⟨⟩
  · cases h
  · obtain ⟨⟩ := s'
    simp only [Option.elim_some, St.same, Bool.and_eq_true, decide_eq_true_eq] at h
    obtain ⟨⟨⟨⟨⟨rfl, rfl⟩, rfl⟩, rfl⟩, rfl⟩, rfl⟩ := h
    rfl

/-- The state after an act, if the act is allowed. -/
def St.next (s : St) : Act → Option St
  | .send t =>
    if t ∈ s.unsent ∧ t ∉ s.pending ∧ slotOf t ∈ s.slots then
      some { s with unsent := s.unsent.erase t, pending := insert t s.pending, slots := s.slots.erase (slotOf t) }
    else none
  | .take t =>
    if t ∈ s.awaited ∧ t ∉ s.arrived ∧ (∀ u ∈ s.unsent, depth t < depth u) ∧ .inr (t, true) ∉ s.slots
        ∧ .inr (t, false) ∉ insert (.inr (t, true)) s.slots then
      some { s with awaited := s.awaited.erase t, arrived := insert t s.arrived,
                    slots := insert (.inr (t, false)) (insert (.inr (t, true)) s.slots) }
    else none
  | .free t =>
    if t ∈ s.pending ∧ t ∉ s.settled ∧ slotOf t ∉ s.slots ∧ s.unsent = ∅ then
      some { s with pending := s.pending.erase t, settled := insert t s.settled, slots := insert (slotOf t) s.slots }
    else none

/-- The state after a list of acts. -/
def St.after : List Act → St → Option St
  | [], s => some s
  | a :: l, s => (s.next a).bind (St.after l)

/-- Before any act: nothing sent, and the slots of the operand held. -/
def St.first : St := ⟨Finset.univ, Finset.univ, ∅, ∅, ∅, Finset.univ.map ⟨Sum.inl, Sum.inl_injective⟩⟩
/-- After the last: everything settled, and every slot held. -/
def St.last : St := ⟨∅, ∅, Finset.univ, ∅, Finset.univ, Finset.univ⟩

/-- After the courses: everything sent and arrived. -/
def St.midway : St := ⟨∅, ∅, Finset.univ, Finset.univ, ∅, Finset.univ \ Finset.univ.image slotOf⟩

set_option maxRecDepth 20000 in
/-- The program's order of sends and arrivals is allowed, -/
theorem after_courses : St.after courses St.first = some St.midway :=
  St.of_same (by decide +kernel)
set_option maxRecDepth 20000 in
/-- and so are its settlings. -/
theorem after_settles : St.after settles St.midway = some St.last :=
  St.of_same (by decide +kernel)

variable (X : Operands F)

/-- What a message needs to be sent. -/
def sendKit (c : Dev nD) (t : Msg) : sProp 𝕄 :=
  iprop(dutyTok EG (sendCell c t) 0 0 ∗ dutyTok EG (recvCell (across (link t) c) t) 0 0 ∗ spot (F := F) (across (link t) c) t
    ∗ atPos EG (sendCell c t) 0 ∅ 0)
/-- What its arrival needs. -/
def recvKit (c : Dev nD) (t : Msg) : sProp 𝕄 :=
  iprop(atPos EG (recvCell c t) 0 ∅ 0 ∗ cred (tallyAt (recvCell c t) () (credit t)))
/-- What its settling needs. -/
def backKit (c : Dev nD) (t : Msg) : sProp 𝕄 :=
  iprop(atPos EG (sendCell c t) 0 ∅ 0 ∗ cred (tallyAt (sendCell c t) () (credit t)))

/-- What device `c` holds in a state. -/
def Res (c : Dev nD) (s : St) : sProp 𝕄 :=
  iprop((∃ W, owes (c : Thread nD τ) (owed c s.unsent) W) ∗ bigSep s.unsent (sendKit c) ∗ bigSep s.awaited (recvKit c)
    ∗ bigSep s.arrived (fun t => semVal (recvCell c t) 0) ∗ bigSep s.pending (backKit c)
    ∗ bigSep s.settled (fun t => semVal (sendCell c t) 0) ∗ bigSep s.slots (slotPts X c))

/-- What everybody knows: every cell's invariant, that every cell is at its round, and the levels. -/
def records (K : Dev nD × Lane → ℕ) : sProp 𝕄 :=
  iprop((bigSep Finset.univ fun x : Dev nD × Lane => cellInv EG (Rd X) (K x) (cell x))
    ∗ (bigSep Finset.univ fun x : Dev nD × Lane => reached EG (cell x) 0) ∗ levAts L lv)

instance records_persistent (K : Dev nD × Lane → ℕ) : BI.Persistent (records X K) := by unfold records; infer_instance

theorem inv_of (K : Dev nD × Lane → ℕ) (x : Dev nD × Lane) : records X K ⊢ cellInv EG (Rd X) (K x) (cell x) := by
  unfold records
  exact sep_elim_left.trans (bigSep_elim (Finset.mem_univ x))
theorem reached_of (K : Dev nD × Lane → ℕ) (x : Dev nD × Lane) : records X K ⊢ reached EG (cell x) 0 := by
  unfold records
  exact sep_elim_right.trans (sep_elim_left.trans (bigSep_elim (Finset.mem_univ x)))
theorem levels_of (K : Dev nD × Lane → ℕ) : records X K ⊢ levAts L lv := by
  unfold records
  exact sep_elim_right.trans sep_elim_right

/-- One member of a family out of a set, -/
theorem out_of {I : Type} [DecidableEq I] {S : Finset I} {i : I} (h : i ∈ S) (Φ : I → sProp 𝕄) :
    bigSep S Φ ⊢ iprop(Φ i ∗ bigSep (S.erase i) Φ) := by
  conv_lhs => rw [← Finset.insert_erase h]
  rw [BI.bigSep_insert (Finset.notMem_erase i S)]; exact .rfl
/-- and one more into it. -/
theorem into {I : Type} [DecidableEq I] {S : Finset I} {i : I} (h : i ∉ S) (Φ : I → sProp 𝕄) :
    iprop(Φ i ∗ bigSep S Φ) ⊢ bigSep (insert i S) Φ := by
  rw [BI.bigSep_insert h]; exact .rfl

/-- A message's slot is its source at some share, at contents that land as the gathered array. -/
theorem source (c : Dev nD) (t : Msg) :
    ∃ (q : PosShare TreeShare) (fs : Buf (Elt F) ((srcOf c t).view.loc (c : Thread nD τ))),
      slotPts X c (slotOf t) = ((srcOf c t).view.loc (c : Thread nD τ) ↦[(srcOf c t).view.set]{q} fs : sProp 𝕄)
        ∧ ∀ (fd : Result F), ∀ i ∈ (oPart (carried c t) t.1).view.set,
            (oPart (carried c t) t.1).view.write (Elt F) fd ((srcOf c t).view.read (Elt F) fs) Finset.univ i = gathered X i := by
  obtain ⟨p, j⟩ := t
  fin_cases j
  · exact ⟨xShare 0, X c, rfl, land_x X c p⟩
  · exact ⟨xShare 1, X c, rfl, land_x X c p⟩
  · exact ⟨halfShare false, gathered X, rfl, land_o (gathered X) _ p⟩
  · exact ⟨xShare 2, X c, rfl, land_x X c p⟩
  · exact ⟨halfShare true, gathered X, rfl, land_o (gathered X) _ p⟩
  · exact ⟨halfShare false, gathered X, rfl, land_o (gathered X) _ p⟩
  · exact ⟨halfShare false, gathered X, rfl, land_o (gathered X) _ p⟩

/-- A landed part is its two halves. -/
theorem halves (c : Dev nD) (t : Msg) :
    partPts c (across (orig t) c) t.1 fullShare (gathered X) ⊣⊢ iprop(slotPts X c (.inr (t, false)) ∗ slotPts X c (.inr (t, true))) := by
  unfold slotPts partPts
  exact pointsTo_share (PosShare.mem_left_op_right fullShare)

abbrev 𝒱₀ : Variants := Variants.none

/-- A device's program, or what is left of it. -/
abbrev Code (F : FTy → Type) [FloatOps F] : Type 1 := Prog (TpuEff nD τ sig (Elt F) Λ₀ .tc) PUnit.{1}

section Acts
variable (K : Dev nD × Lane → ℕ) (c : Dev nD)

/-- The rest of the program's weakest precondition on device `c`. -/
abbrev rest (c : Dev nD) (Ψ : PUnit.{1} → sProp 𝕄) (k : Code F) : sProp 𝕄 :=
  wp frame (wpE (defs₀ (F := F)) 𝒱₀ (c : Thread nD τ) none) Set.univ k Ψ

/-- A send. -/
theorem send_step (Ψ : PUnit.{1} → sProp 𝕄) {s s' : St} {t : Msg} (h : s.next (.send t) = some s') (k : PUnit.{1} → Code F) :
    iprop(records X K ∗ Res X c s ∗ (Res X c s' -∗ rest c Ψ (k ⟨⟩))) ⊢ rest c Ψ (Prog.op (Act.eff c (.send t)) k) := by
  unfold St.next at h
  obtain ⟨⟨hu, hp, hs⟩, rfl⟩ := Option.ite_none_right_eq_some.mp h |>.imp_right Option.some.inj
  obtain ⟨q, fs, hsl, hland⟩ := source X c t
  unfold Res
  iintro ⟨#HR, ⟨⟨%W, HO⟩, Hu, Ha, Har, Hp, Hse, Hsl⟩, Hk⟩
  ihave H1 := (out_of hu (sendKit c)) $$ Hu
  icases H1 with ⟨Hkit, Hu⟩
  ihave H2 := (out_of hs (slotPts X c)) $$ Hsl
  icases H2 with ⟨Hsrc, Hsl⟩
  unfold sendKit spot
  icases Hkit with ⟨HtS, HtV, ⟨%fd, Hdst⟩, Hat⟩
  ihave Hsrc' := (Entails.of_eq hsl) $$ Hsrc
  rw [owed_erase c hu, ← carried_eq]
  unfold partPts
  iapply (Rounds.wp_send_pointsTo 𝒱₀ EG (Rd X) (c : Thread nD τ) none (c' := (across (link t) c : Thread nD τ))
      (src := srcOf c t) (dst := oPart (carried c t) t.1) (sS := .dma (sendSem t)) (sem := .dma (recvSem t))
      (κ₁ := K (c, .inr (.inr (.inl t)))) (κ₂ := K (across (link t) c, .inr (.inr (.inr t))))
      (r₁ := 0) (r₂ := 0) (d₁ := 0) (d₂ := 0) (fd := fd)
      (by rw [show ((c : Thread nD τ), SemLoc.dma (sendSem t)) = sendCell c t from rfl, duties_own]; exact Finset.mem_singleton_self _)
      (by rw [show ((across (link t) c : Thread nD τ), SemLoc.dma (recvSem t)) = recvCell (across (link t) c) t from rfl, duties_own]
          exact Finset.mem_singleton_self _)
      () () (credit t) rfl (amount_own X c (.inr (.inl t)) 0) (amount_own X (across (link t) c) (.inr (.inr t)) 0)
      (owed c (s.unsent.erase t)) rfl (W := W)
      (Entails.of_eq (hsl.symm.trans (payload_own X c (.inr (.inl t)) 0).symm))
      (Entails.of_eq ((pointsTo_congr (hland fd)).trans (by
        refine Eq.trans ?_ (payload_own X (across (link t) c) (.inr (.inr t)) 0).symm
        show partPts (across (link t) c) (carried c t) t.1 fullShare (gathered X)
          = partPts (across (link t) c) (across (orig t) (across (link t) c)) t.1 fullShare (gathered X)
        rw [carried_eq])))) $$ [HO HtS HtV Hsrc' Hdst]
  · isplitr; · iapply (inv_of X K (c, .inr (.inr (.inl t)))); iexact HR
    isplitr; · iapply (inv_of X K (across (link t) c, .inr (.inr (.inr t)))); iexact HR
    isplitl [Hsrc']; · iexact Hsrc'
    isplitl [Hdst]; · iexact Hdst
    isplitl [HO]; · iexact HO
    isplitl [HtS]; · iexact HtS
    isplitr; · iapply (reached_of X K (c, .inr (.inr (.inl t)))); iexact HR
    isplitl [HtV]; · iexact HtV
    iapply (reached_of X K (across (link t) c, .inr (.inr (.inr t)))); iexact HR
  iintro ⟨Hc, HO⟩
  iapply Hk
  isplitl [HO]; · iexists W; iexact HO
  isplitl [Hu]; · iexact Hu
  isplitl [Ha]; · iexact Ha
  isplitl [Har]; · iexact Har
  isplitl [Hp Hat Hc]
  · iapply (into hp (backKit c))
    isplitl [Hat Hc]
    · unfold backKit
      isplitl [Hat]; · iexact Hat
      iexact Hc
    iexact Hp
  isplitl [Hse]; · iexact Hse
  iexact Hsl

/-- An arrival. -/
theorem take_step (Ψ : PUnit.{1} → sProp 𝕄) {s s' : St} {t : Msg} (h : s.next (.take t) = some s') (k : PUnit.{1} → Code F) :
    iprop(records X K ∗ Res X c s ∗ (Res X c s' -∗ rest c Ψ (k ⟨⟩))) ⊢ rest c Ψ (Prog.op (Act.eff c (.take t)) k) := by
  unfold St.next at h
  simp only [Act.eff]
  obtain ⟨⟨ha, har, hd, h1, h0⟩, rfl⟩ := Option.ite_none_right_eq_some.mp h |>.imp_right Option.some.inj
  unfold Res
  iintro ⟨#HR, ⟨⟨%W, HO⟩, Hu, Ha, Har, Hp, Hse, Hsl⟩, Hk⟩
  ihave H1 := (out_of ha (recvKit c)) $$ Ha
  icases H1 with ⟨Hkit, Ha⟩
  unfold recvKit
  icases Hkit with ⟨Hat, Hc⟩
  iapply (Rounds.wp_wait_rest_token 𝒱₀ EG (Rd X) (c : Thread nD τ) none (κ := K (c, .inr (.inr (.inr t)))) (sm := laneSem (.inr (.inr (.inr t))))
      (wpE_waitDma2_eq 𝒱₀ (c : Thread nD τ) none Set.univ) (Set.mem_univ _) () (O := owed c s.unsent) (W := W) (R := 0) (m := 0) (T := ∅)
      ((Nat.zero_add _).trans ((show (oPart (across (orig t) c) t.1).view.dmaCredit = credit t from rfl).trans (expect_own X c (.inr (.inr t))).symm))) $$ [Hc HO Hat]
  · isplitr; · iapply (inv_of X K (c, .inr (.inr (.inr t)))); iexact HR
    isplitl [Hc]; · iexact Hc
    isplitl [HO]; · iexact HO
    isplitr
    · iapply (mayWait c (.inr (.inr (.inr t))) s.unsent (by rw [lv_recv]; exact hd))
      iapply (levels_of X K); iexact HR
    iexact Hat
  iintro ⟨HO, Hat, -, Hpay⟩
  ihave Hp1 := (Entails.of_eq (rest_own X c (.inr (.inr t)))) $$ Hpay
  ihave Hp2 := (show ownPay X c (.inr (.inr t)) ⊢ _ from (halves X c t).1) $$ Hp1
  icases Hp2 with ⟨Hl, Hr⟩
  imod (Rounds.cell_close EG (Rd X) (g := recvCell c t) (Set.mem_univ (K (c, .inr (.inr (.inr t))))) (fun h => h) (R := 0 + 1) (duties_later X _)) $$ [Hat] with Hz
  · isplitr; · iapply (inv_of X K (c, .inr (.inr (.inr t)))); iexact HR
    iexact Hat
  iapply Hk
  isplitl [HO]; · iexists (insert (SemLoc.dma (recvSem t), ()) W); iexact HO
  isplitl [Hu]; · iexact Hu
  isplitl [Ha]; · iexact Ha
  isplitl [Har Hz]
  · iapply (into har (fun t => semVal (recvCell c t) 0))
    isplitl [Hz]; · iexact Hz
    iexact Har
  isplitl [Hp]; · iexact Hp
  isplitl [Hse]; · iexact Hse
  iapply (into h0 (slotPts X c))
  isplitl [Hl]; · iexact Hl
  iapply (into h1 (slotPts X c))
  isplitl [Hr]; · iexact Hr
  iexact Hsl

/-- A settling wait goes by its message's amount. -/
theorem back_credit (t : Msg) : (backOf c t).view.dmaCredit = credit t := by
  obtain ⟨p, j⟩ := t
  fin_cases j <;> rfl

/-- A settling. -/
theorem free_step (Ψ : PUnit.{1} → sProp 𝕄) {s s' : St} {t : Msg} (h : s.next (.free t) = some s') (k : PUnit.{1} → Code F) :
    iprop(records X K ∗ Res X c s ∗ (Res X c s' -∗ rest c Ψ (k ⟨⟩))) ⊢ rest c Ψ (Prog.op (Act.eff c (.free t)) k) := by
  unfold St.next at h
  simp only [Act.eff]
  obtain ⟨⟨hp, hse, hs, hu⟩, rfl⟩ := Option.ite_none_right_eq_some.mp h |>.imp_right Option.some.inj
  unfold Res
  iintro ⟨#HR, ⟨⟨%W, HO⟩, Hu, Ha, Har, Hp, Hse, Hsl⟩, Hk⟩
  ihave H1 := (out_of hp (backKit c)) $$ Hp
  icases H1 with ⟨Hkit, Hp⟩
  unfold backKit
  icases Hkit with ⟨Hat, Hc⟩
  iapply (Rounds.wp_wait_rest_token 𝒱₀ EG (Rd X) (c : Thread nD τ) none (κ := K (c, .inr (.inr (.inl t)))) (sm := laneSem (.inr (.inr (.inl t))))
      (wpE_waitDma2_eq 𝒱₀ (c : Thread nD τ) none Set.univ) (Set.mem_univ _) () (O := owed c s.unsent) (W := W) (R := 0) (m := 0) (T := ∅)
      ((Nat.zero_add _).trans ((back_credit c t).trans (expect_own X c (.inr (.inl t))).symm))) $$ [Hc HO Hat]
  · isplitr; · iapply (inv_of X K (c, .inr (.inr (.inl t)))); iexact HR
    isplitl [Hc]; · rw [show (backOf c t).view.dmaCredit = credit t from back_credit c t]; iexact Hc
    isplitl [HO]; · iexact HO
    isplitr
    · rw [hu, show owed c ∅ = 0 from Finset.sum_empty, MayWait_zero]; iempintro
    iexact Hat
  iintro ⟨HO, Hat, -, Hpay⟩
  ihave Hp1 := (Entails.of_eq (rest_own X c (.inr (.inl t)))) $$ Hpay
  imod (Rounds.cell_close EG (Rd X) (g := sendCell c t) (Set.mem_univ (K (c, .inr (.inr (.inl t))))) (fun h => h) (R := 0 + 1) (duties_later X _)) $$ [Hat] with Hz
  · isplitr; · iapply (inv_of X K (c, .inr (.inr (.inl t)))); iexact HR
    iexact Hat
  iapply Hk
  isplitl [HO]; · iexists (insert (SemLoc.dma (sendSem t), ()) W); iexact HO
  isplitl [Hu]; · iexact Hu
  isplitl [Ha]; · iexact Ha
  isplitl [Har]; · iexact Har
  isplitl [Hp]; · iexact Hp
  isplitl [Hse Hz]
  · iapply (into hse (fun t => semVal (sendCell c t) 0))
    isplitl [Hz]; · iexact Hz
    iexact Hse
  iapply (into hs (slotPts X c))
  isplitl [Hp1]; · iapply (show ownPay X c (.inr (.inl t)) ⊢ slotPts X c (slotOf t) from .rfl); iexact Hp1
  iexact Hsl

/-- Any act. -/
theorem act_step (Ψ : PUnit.{1} → sProp 𝕄) {s s' : St} {a : Act} (h : s.next a = some s') (k : PUnit.{1} → Code F) :
    iprop(records X K ∗ Res X c s ∗ (Res X c s' -∗ rest c Ψ (k ⟨⟩))) ⊢ rest c Ψ (Prog.op (Act.eff c a) k) := by
  rcases a with t | t | t
  · exact send_step X K c Ψ h k
  · exact take_step X K c Ψ h k
  · exact free_step X K c Ψ h k

/-- A list of acts. -/
theorem acts_run (Ψ : PUnit.{1} → sProp 𝕄) (l : List Act) {s s' : St} (h : St.after l s = some s') (k : Code F) :
    iprop(records X K ∗ Res X c s ∗ (Res X c s' -∗ rest c Ψ k)) ⊢ rest c Ψ (acts c l k) := by
  induction l generalizing s with
  | nil =>
    obtain rfl := Option.some.inj h
    unfold acts
    iintro ⟨-, H, Hk⟩
    iapply Hk; iexact H
  | cons a l ih =>
    obtain ⟨s₁, h1, h2⟩ := Option.bind_eq_some_iff.mp h
    unfold acts
    iintro ⟨#HR, H, Hk⟩
    iapply (act_step X K c Ψ h1)
    isplitr; · iexact HR
    isplitl [H]; · iexact H
    iintro H
    iapply (ih h2)
    isplitr; · iexact HR
    isplitl [H]; · iexact H
    iexact Hk

end Acts

end Cert.Cube

end
-- ==== Proof.Split.lean ====
/-
  A device's two arrays taken apart and put together: the operand into the shares that the
  messages and the local copy read at, the result into its own block and the places its messages
  land at, those places by the neighbour they are lent to.
-/
module

public import proofs.«01_k».proof.Proof.Steps

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Device `d`'s result, whole. -/
def outPts (d : Dev nD) (f : Result F) : sProp 𝕄 := ((d : Thread nD τ).loc main_v1) ↦{fullShare} f

/-- A buffer's elements are those of disjoint sets that cover them. -/
theorem pts_cover {I : Type} [Fintype I] [DecidableEq I] {ℓ : Loc nD τ sig} (q : PosShare TreeShare) (f : Buf (Elt F) ℓ)
    (T : I → Finset (Idx ℓ)) {S : Finset (Idx ℓ)} (hS : ∀ i, i ∈ S ↔ ∃ t, i ∈ T t) (hd : ∀ t u, t ≠ u → Disjoint (T t) (T u)) :
    (ℓ ↦[S]{q} f : sProp 𝕄) = bigSep Finset.univ fun t => ℓ ↦[T t]{q} f := by
  rw [show S = Finset.univ.biUnion T from Finset.ext fun i => (hS i).trans (by simp)]
  exact pointsTo_biUnion Finset.univ T fun t _ u _ h => hd t u h

/-- What lies outside a device's own block lies at one of the places. -/
theorem mem_spots (d : Dev nD) (i : S16384x512.Idx) : i ∉ (oBlock d).view.set ↔ ∃ t, i ∈ spotSet d t := by
  have h := congrArg (fun S => i ∈ S) (spot_cover d)
  simp only [Finset.mem_biUnion, Finset.mem_sdiff, Finset.mem_univ, true_and, eq_iff_iff] at h
  exact h.symm

/-- The result is its own block and the places of all messages. -/
theorem outPts_split (d : Dev nD) (f : Result F) :
    outPts d f = iprop(blockPts d f ∗ bigSep Finset.univ fun t : Msg => partPts d (across (orig t) d) t.1 fullShare f) := by
  have h1 : outPts d f ⊣⊢ iprop(blockPts d f ∗ (((d : Thread nD τ).loc main_v1) ↦[Finset.univ \ (oBlock d).view.set]{fullShare} f)) :=
    pointsTo_split_subset (Finset.subset_univ _)
  rw [BI.Entails.antisymm h1.1 h1.2]
  refine congrArg (fun P : sProp 𝕄 => iprop(blockPts d f ∗ P)) ?_
  refine pts_cover (ℓ := (d : Thread nD τ).loc main_v1) fullShare f (spotSet d) (fun i => ?_) fun t u h => spot_disjoint d h
  rw [Finset.mem_sdiff]
  exact (and_iff_right (Finset.mem_univ i)).trans (mem_spots d i)

/-- The operand at a share is its parts at it. -/
theorem wholePts_parts (d : Dev nD) (q : PosShare TreeShare) (f : (main_arg0 : Ref sig .tc).ty.Contents (Elt F)) :
    wholePts d q f = (bigSep Finset.univ fun p : Fin 3 => sharePts d p q f : sProp 𝕄) := by
  refine pts_cover (ℓ := (d : Thread nD τ).loc main_arg0) q f (fun p => (xPart p).view.set) (fun i => ?_) fun p q h => xPart_disjoint h
  have h : i ∈ Finset.univ.biUnion (fun p => (xPart p).view.set) := by rw [xPart_cover]; exact Finset.mem_univ i
  obtain ⟨p, -, hp⟩ := Finset.mem_biUnion.mp h
  refine iff_of_true ?_ ⟨p, hp⟩
  rw [show (xAll : Memref sig .tc .hbm S2048x512 .f32).view.set = Finset.univ from View.set_whole main_arg0]
  exact Finset.mem_univ i

theorem sep_regroup (P Q R : sProp 𝕄) : iprop((P ∗ Q) ∗ R) = iprop(P ∗ Q ∗ R) := BI.equiv_iff.mp ⟨BI.sep_assoc, BI.sep_assoc'⟩

/-- A share of the operand is its two halves. -/
theorem wholePts_share (d : Dev nD) (q : PosShare TreeShare) (f : (main_arg0 : Ref sig .tc).ty.Contents (Elt F)) :
    wholePts d q f = (iprop(wholePts d q.left f ∗ wholePts d q.right f) : sProp 𝕄) :=
  BI.Entails.antisymm (pointsTo_share (PosShare.mem_left_op_right q)).1 (pointsTo_share (PosShare.mem_left_op_right q)).2

variable (X : Operands F)

/-- The slots of the operand are its parts at the three shares. -/
theorem slots_first (c : Dev nD) :
    bigSep St.first.slots (slotPts X c) = iprop(wholePts c fullShare.left.left (X c) ∗ wholePts c fullShare.left.right (X c)
      ∗ wholePts c fullShare.right.left (X c)) := by
  show bigSep (Finset.univ.map _) _ = _
  rw [BI.bigSep_map, BI.bigSep_univ_prod, bigSep_univ_comm, bigSep_univ_eq_bigSepL [0, 1, 2] (by decide) (by decide), wholePts_parts, wholePts_parts, wholePts_parts]
  rfl

/-- The operand is its slots and the local copy's share. -/
theorem wholePts_slots (c : Dev nD) :
    wholePts c fullShare (X c) = iprop(bigSep St.first.slots (slotPts X c) ∗ wholePts c homeShare (X c)) := by
  rw [slots_first, wholePts_share, wholePts_share c fullShare.left, wholePts_share c fullShare.right]
  simp only [sep_regroup]
  rfl

/-- All slots are those of the operand and every landed part. -/
theorem slots_last (c : Dev nD) :
    bigSep St.last.slots (slotPts X c) = iprop(bigSep St.first.slots (slotPts X c)
      ∗ bigSep Finset.univ fun t : Msg => partPts c (across (orig t) c) t.1 fullShare (gathered X)) := by
  show bigSep Finset.univ _ = iprop(bigSep (Finset.univ.map _) _ ∗ _)
  rw [BI.bigSep_univ_sum, BI.bigSep_map, BI.bigSep_univ_prod (fun b : Msg × Bool => slotPts X c (.inr b))]
  refine congrArg (fun P : sProp 𝕄 => iprop(_ ∗ P)) (bigSep_congr fun t _ => ?_)
  rw [bigSep_univ_eq_bigSepL [false, true] (by decide) (by decide)]
  exact BI.Entails.antisymm (halves X c t).2 (halves X c t).1

theorem sides_inj {i j : Fin 3} (h : sides i = sides j) : i = j := by revert i j; decide
theorem exists_side (t : Msg) : ∃ i, link t = sides i := by revert t; decide

/-- A family over the messages, by the side each crosses. -/
theorem by_side (Φ : Msg → sProp 𝕄) :
    bigSep Finset.univ Φ = bigSep Finset.univ fun i : Fin 3 => bigSep (Finset.univ.filter fun t : Msg => link t = sides i) Φ := by
  rw [← bigSep_biUnion_eq]
  · refine congrArg (fun S => bigSep S Φ) (Finset.eq_univ_iff_forall.mpr fun t => ?_).symm
    obtain ⟨i, hi⟩ := exists_side t
    exact Finset.mem_biUnion.mpr ⟨i, Finset.mem_univ i, Finset.mem_filter.mpr ⟨Finset.mem_univ t, hi⟩⟩
  · intro i _ j _ h
    refine Finset.disjoint_left.mpr fun t hi hj => h (sides_inj ?_)
    rw [← (Finset.mem_filter.mp hi).2, (Finset.mem_filter.mp hj).2]

/-- What a device lends its three neighbours is the places of all its messages. -/
theorem lent (c : Dev nD) :
    (bigSep Finset.univ fun t : Msg => spot (F := F) c t) = bigSep Finset.univ fun i : Fin 3 => barPay (F := F) (across (sides i) c) i := by
  rw [by_side]
  refine bigSep_congr fun i _ => ?_
  unfold barPay
  rw [across_across]

/-- What its neighbours lend it is the places of all its messages to them. -/
theorem borrowed (c : Dev nD) :
    (bigSep Finset.univ fun i : Fin 3 => barPay (F := F) c i) = bigSep Finset.univ fun t : Msg => spot (F := F) (across (link t) c) t := by
  rw [by_side]
  refine bigSep_congr fun i _ => ?_
  unfold barPay
  exact bigSep_congr fun t ht => by rw [(Finset.mem_filter.mp ht).2]

end Cert.Cube

end
-- ==== Proof.Body.lean ====
/-
  The whole program of a device: the handshake with its three neighbours, the copy of its own block,
  the courses, the wait for that copy, the settlings.
-/
module

public import proofs.«01_k».proof.Proof.Split

@[expose] public section

set_option synthInstance.maxSize 1000

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Operands F)

/-- What the handshake needs. -/
def barKit (c : Dev nD) : sProp 𝕄 :=
  iprop(atPos EG (barCell c) 0 ∅ 0 ∗ cred (tallyAt (barCell c) () 3)
    ∗ bigSep Finset.univ fun i : Fin 3 => dutyTok EG (barCell (across (sides i) c)) 0 i)
/-- What the copy of the own block needs. -/
def homeKit (c : Dev nD) : sProp 𝕄 := iprop(atPos EG (ownCell c) 0 ∅ 0 ∗ dutyTok EG (ownCell c) 0 0)
/-- What a message needs to be sent, but for the place where it lands. -/
def sendToks (c : Dev nD) (t : Msg) : sProp 𝕄 :=
  iprop((dutyTok EG (sendCell c t) 0 0 ∗ dutyTok EG (recvCell (across (link t) c) t) 0 0) ∗ atPos EG (sendCell c t) 0 ∅ 0)

/-- What device `c` starts from. -/
def ready (K : Dev nD × Lane → ℕ) (c : Dev nD) : sProp 𝕄 :=
  iprop(records X K ∗ barKit c ∗ homeKit c ∗ bigSep Finset.univ (sendToks c) ∗ bigSep Finset.univ (recvKit c)
    ∗ wholePts c fullShare (X c) ∗ ∃ f, outPts c f)
/-- What it ends with: its operand as it was, the result gathered, its semaphores at zero. -/
def done (c : Dev nD) : sProp 𝕄 :=
  iprop(wholePts c fullShare (X c) ∗ outPts c (gathered X) ∗ bigSep Finset.univ fun k : Lane => semVal (cell (c, k)) 0)

/-- A device's semaphores, sorted. -/
theorem lanes (Φ : Lane → sProp 𝕄) : bigSep Finset.univ Φ
    = iprop(Φ (.inl ()) ∗ Φ (.inr (.inl ())) ∗ (bigSep Finset.univ fun t : Msg => Φ (.inr (.inr (.inl t))))
      ∗ bigSep Finset.univ fun t : Msg => Φ (.inr (.inr (.inr t)))) := by
  rw [BI.bigSep_univ_sum, BI.bigSep_univ_sum, BI.bigSep_univ_sum, bigSep_univ_eq_bigSepL [()] (by decide) (by decide),
    bigSep_univ_eq_bigSepL [()] (by decide) (by decide)]
  rfl

variable (K : Dev nD × Lane → ℕ) (c : Dev nD)

/-- A signal of the handshake. -/
theorem signal_step (Ψ : PUnit.{1} → sProp 𝕄) (i : Fin 3) (O : CellTallies nD τ sig Unit) (W : Waits sig Unit) (k : PUnit.{1} → Code F) :
    iprop(records X K ∗ owes (c : Thread nD τ) (O + tallyAt (barCell (across (sides i) c)) () 1) W
        ∗ dutyTok EG (barCell (across (sides i) c)) 0 i ∗ barPay (F := F) (across (sides i) c) i
        ∗ (owes (c : Thread nD τ) O W -∗ rest c Ψ (k ⟨⟩)))
      ⊢ rest c Ψ (Prog.op (.semSignal (Dev.tc (across (sides i) c)) barSem 1) k) := by
  iintro ⟨#HR, HO, Ht, Hp, Hk⟩
  iapply (Rounds.wp_signal 𝒱₀ EG (Rd X) (c : Thread nD τ) none (dst := (across (sides i) c : Thread nD τ))
      (κ := K (across (sides i) c, .inl ())) (r := 0) (d := i)
      (by rw [show ((across (sides i) c : Thread nD τ), SemLoc.reg barSem) = barCell (across (sides i) c) from rfl, duties_bar]; exact Finset.mem_univ _)
      (amount_bar X (across (sides i) c) i) () O rfl) $$ [HO Ht Hp]
  · isplitr; · iapply (inv_of X K (across (sides i) c, .inl ())); iexact HR
    isplitl [HO]; · iexact HO
    isplitl [Ht]; · iexact Ht
    isplitl [Hp]
    · iapply (show barPay (F := F) (across (sides i) c) i ⊢ (Rd X).payload ((across (sides i) c : Thread nD τ), SemLoc.reg barSem) 0 i from .rfl)
      iexact Hp
    iapply (reached_of X K (across (sides i) c, .inl ())); iexact HR
  iexact Hk

/-- The start of the copy of the own block. -/
theorem home_step (Ψ : PUnit.{1} → sProp 𝕄) (f : Result F) (k : PUnit.{1} → Code F) :
    iprop(records X K ∗ wholePts c homeShare (X c) ∗ blockPts c f ∗ dutyTok EG (ownCell c) 0 0
        ∗ (cred (tallyAt (ownCell c) () (amountOf (.inl ()))) -∗ rest c Ψ (k ⟨⟩)))
      ⊢ rest c Ψ (Prog.op (.enqueueDma xAll (.here (oBlock c)) (.dma ownSem) (Memref.isWhole_whole main_arg0).wordExact (View.wordExact_bits rfl)
        ⟨Or.inl rfl, trivial⟩) k) := by
  iintro ⟨#HR, Hx, Ho, Ht, Hk⟩
  unfold wholePts blockPts
  iapply (Rounds.wp_copy_pointsTo 𝒱₀ EG (Rd X) (c : Thread nD τ) none (κ := K (c, .inr (.inl ()))) (r := 0) (d := 0)
      (src := xAll) (dst := oBlock c) (sem := .dma ownSem) (q := homeShare) (fs := X c) (fd := f)
      (by rw [show ((c : Thread nD τ), SemLoc.dma ownSem) = ownCell c from rfl, duties_own]; exact Finset.mem_singleton_self _)
      () (amountOf (.inl ())) rfl (amount_own X c (.inl ()) 0)
      (Entails.of_eq ((congrArg (fun P : sProp 𝕄 => iprop(P ∗ wholePts c homeShare (X c))) (pointsTo_congr (land_block X c f))).trans
        (payload_own X c (.inl ()) 0).symm))) $$ [Hx Ho Ht]
  · isplitr; · iapply (inv_of X K (c, .inr (.inl ()))); iexact HR
    isplitl [Hx]; · iexact Hx
    isplitl [Ho]; · iexact Ho
    isplitl [Ht]; · iexact Ht
    iapply (reached_of X K (c, .inr (.inl ()))); iexact HR
  iexact Hk

/-- What is owed at the start, signal by signal. -/
theorem owed₀_eq : owed₀ c = owed c Finset.univ + tallyAt (barCell (across (sides 2) c)) () 1
    + tallyAt (barCell (across (sides 1) c)) () 1 + tallyAt (barCell (across (sides 0) c)) () 1 := by
  unfold owed₀ owedBar
  rw [Fin.sum_univ_three]
  ac_rfl

/-- Tokens and a lent place are what a send needs, -/
theorem send_kit (t : Msg) : iprop(sendToks (F := F) c t ∗ spot (F := F) (across (link t) c) t) ⊢ sendKit (F := F) c t := by
  unfold sendToks sendKit
  iintro ⟨⟨⟨H1, H2⟩, H3⟩, H4⟩
  isplitl [H1]; · iexact H1
  isplitl [H2]; · iexact H2
  isplitl [H4]; · iexact H4
  iexact H3
/-- for every message. -/
theorem send_kits : iprop(bigSep Finset.univ (sendToks (F := F) c) ∗ bigSep Finset.univ fun t : Msg => spot (F := F) (across (link t) c) t)
    ⊢ bigSep Finset.univ (sendKit (F := F) c) := by
  rw [← bigSep_sep']
  exact BI.bigSep_mono fun t _ => send_kit c t

theorem bigSep_none {I : Type} (Φ : I → sProp 𝕄) : (iprop(emp) : sProp 𝕄) ⊢ bigSep ∅ Φ := by rw [bigSep_empty]; exact .rfl

theorem bigSep_three (Φ : Fin 3 → sProp 𝕄) : bigSep Finset.univ Φ = iprop(Φ 0 ∗ Φ 1 ∗ Φ 2) :=
  bigSep_univ_eq_bigSepL [0, 1, 2] (by decide) (by decide) Φ

/-- A message's place at some contents. -/
theorem spot_intro (d : Dev nD) (t : Msg) (f : Result F) : partPts d (across (orig t) d) t.1 fullShare f ⊢ spot d t := by
  unfold spot
  iintro H
  iexists f
  iexact H

set_option maxHeartbeats 1000000 in
/-- The program of a device takes it from the start to the end. -/
theorem sound (Ψ : PUnit.{1} → sProp 𝕄) (W : Waits sig Unit) :
    iprop(ready X K c ∗ owes (c : Thread nD τ) (owed₀ c) W ∗ ((done X c ∗ ∃ W', owes (c : Thread nD τ) 0 W') -∗ Ψ ⟨⟩))
      ⊢ rest c Ψ (script c) := by
  unfold ready barKit homeKit script
  iintro ⟨⟨#HR, ⟨HatB, HcB, HtB⟩, ⟨HatH, HtH⟩, Hs, Hv, Hx, ⟨%f, Ho⟩⟩, HO, Hk⟩
  ihave Ho1 := (Entails.of_eq (outPts_split c f)) $$ Ho
  icases Ho1 with ⟨Hblk, Hparts⟩
  ihave Hspots := (show (bigSep Finset.univ fun t : Msg => partPts c (across (orig t) c) t.1 fullShare f)
      ⊢ bigSep Finset.univ fun t : Msg => spot (F := F) c t from
    BI.bigSep_mono fun t _ => spot_intro c t f) $$ Hparts
  ihave Hlent := (Entails.of_eq ((lent (F := F) c).trans (bigSep_three _))) $$ Hspots
  icases Hlent with ⟨Hl0, Hl1, Hl2⟩
  ihave HtB1 := (Entails.of_eq (bigSep_three _)) $$ HtB
  icases HtB1 with ⟨Ht0, Ht1, Ht2⟩
  rw [owed₀_eq]
  iapply (signal_step X K c Ψ 0 _ W _)
  isplitr; · iexact HR
  isplitl [HO]; · iexact HO
  isplitl [Ht0]; · iexact Ht0
  isplitl [Hl0]; · iexact Hl0
  iintro HO
  iapply (signal_step X K c Ψ 1 _ W _)
  isplitr; · iexact HR
  isplitl [HO]; · iexact HO
  isplitl [Ht1]; · iexact Ht1
  isplitl [Hl1]; · iexact Hl1
  iintro HO
  iapply (signal_step X K c Ψ 2 _ W _)
  isplitr; · iexact HR
  isplitl [HO]; · iexact HO
  isplitl [Ht2]; · iexact Ht2
  isplitl [Hl2]; · iexact Hl2
  iintro HO
  iapply (Rounds.wp_wait_rest_token 𝒱₀ EG (Rd X) (c : Thread nD τ) none (κ := K (c, .inl ())) (sm := laneSem (.inl ()))
      (wpE_semWait_eq 𝒱₀ (c : Thread nD τ) none Set.univ) (Set.mem_univ _) () (O := owed c Finset.univ) (W := W) (R := 0) (m := 0) (T := ∅)
      ((Nat.zero_add _).trans (expect_bar X c).symm)) $$ [HcB HO HatB]
  · isplitr; · iapply (inv_of X K (c, .inl ())); iexact HR
    isplitl [HcB]; · iexact HcB
    isplitl [HO]; · iexact HO
    isplitr
    · iapply (mayWait c (.inl ()) Finset.univ fun t _ => depth_pos t)
      iapply (levels_of X K); iexact HR
    iexact HatB
  iintro ⟨HO, HatB, -, Hpay⟩
  ihave Hpay1 := (Entails.of_eq ((rest_bar X c).trans (borrowed (F := F) c))) $$ Hpay
  imod (Rounds.cell_close EG (Rd X) (g := barCell c) (Set.mem_univ (K (c, .inl ()))) (fun h => h) (R := 0 + 1) (duties_later X _)) $$ [HatB] with HzB
  · isplitr; · iapply (inv_of X K (c, .inl ())); iexact HR
    iexact HatB
  ihave Hx1 := (Entails.of_eq (wholePts_slots X c)) $$ Hx
  icases Hx1 with ⟨Hsl, Hhome⟩
  iapply (home_step X K c Ψ f _)
  isplitr; · iexact HR
  isplitl [Hhome]; · iexact Hhome
  isplitl [Hblk]; · iexact Hblk
  isplitl [HtH]; · iexact HtH
  iintro HcH
  iapply (acts_run X K c Ψ courses after_courses _)
  isplitr; · iexact HR
  isplitl [HO Hs Hpay1 Hv Hsl]
  · unfold Res
    isplitl [HO]; · iexists _; iexact HO
    isplitl [Hs Hpay1]
    · iapply (send_kits (F := F) c)
      isplitl [Hs]; · iexact Hs
      iexact Hpay1
    isplitl [Hv]; · iexact Hv
    isplitr; · iapply (bigSep_none (F := F)); iempintro
    isplitr; · iapply (bigSep_none (F := F)); iempintro
    isplitr; · iapply (bigSep_none (F := F)); iempintro
    iexact Hsl
  iintro Hres
  unfold Res
  icases Hres with ⟨⟨%W1, HO⟩, Hu, Ha, Har, Hp, Hse, Hsl⟩
  iapply (Rounds.wp_wait_rest_token 𝒱₀ EG (Rd X) (c : Thread nD τ) none (κ := K (c, .inr (.inl ()))) (sm := laneSem (.inr (.inl ())))
      (wpE_waitDma2_eq 𝒱₀ (c : Thread nD τ) none Set.univ) (Set.mem_univ _) () (O := owed c ∅) (W := W1) (R := 0) (m := 0) (T := ∅)
      ((Nat.zero_add _).trans ((show (oBlock c).view.dmaCredit = amountOf (.inl ()) from rfl).trans (expect_own X c (.inl ())).symm))) $$ [HcH HO HatH]
  · isplitr; · iapply (inv_of X K (c, .inr (.inl ()))); iexact HR
    isplitl [HcH]; · iexact HcH
    isplitl [HO]; · iexact HO
    isplitr
    · iapply (mayWait c (.inr (.inl ())) ∅ fun t h => absurd h (Finset.notMem_empty t))
      iapply (levels_of X K); iexact HR
    iexact HatH
  iintro ⟨HO, HatH, -, Hpay⟩
  ihave Hpay2 := (Entails.of_eq (rest_own X c (.inl ()))) $$ Hpay
  ihave Hpay3 := (show ownPay X c (.inl ()) ⊢ iprop(blockPts c (gathered X) ∗ wholePts c homeShare (X c)) from .rfl) $$ Hpay2
  icases Hpay3 with ⟨Hblk, Hhome⟩
  imod (Rounds.cell_close EG (Rd X) (g := ownCell c) (Set.mem_univ (K (c, .inr (.inl ())))) (fun h => h) (R := 0 + 1) (duties_later X _)) $$ [HatH] with HzH
  · isplitr; · iapply (inv_of X K (c, .inr (.inl ()))); iexact HR
    iexact HatH
  iapply (acts_run X K c Ψ settles after_settles _)
  isplitr; · iexact HR
  isplitl [HO Hu Ha Har Hp Hse Hsl]
  · unfold Res
    isplitl [HO]; · iexists _; iexact HO
    isplitl [Hu]; · iexact Hu
    isplitl [Ha]; · iexact Ha
    isplitl [Har]; · iexact Har
    isplitl [Hp]; · iexact Hp
    isplitl [Hse]; · iexact Hse
    iexact Hsl
  iintro Hres
  unfold Res
  icases Hres with ⟨⟨%W2, HO⟩, -, -, Har, -, Hse, Hsl⟩
  ihave Hsl1 := (Entails.of_eq (slots_last X c)) $$ Hsl
  icases Hsl1 with ⟨Hsl, Hparts⟩
  unfold rest
  rw [wp_ret]
  imodintro
  iapply Hk
  isplitr [HO]
  · unfold done
    isplitl [Hsl Hhome]
    · iapply (Entails.of_eq (wholePts_slots X c).symm)
      isplitl [Hsl]; · iexact Hsl
      iexact Hhome
    isplitl [Hblk Hparts]
    · iapply (Entails.of_eq (outPts_split c (gathered X)).symm)
      isplitl [Hblk]; · iexact Hblk
      iexact Hparts
    rw [lanes]
    isplitl [HzB]; · iexact HzB
    isplitl [HzH]; · iexact HzH
    isplitl [Hse]; · iexact Hse
    iexact Har
  · iexists W2
    iexact HO

end Cert.Cube

end
-- ==== Proof.Deal.lean ====
/-
  How the launch deals: every device's semaphores become cells with invariants, the duty tokens go
  to the devices that pay the duties, and each device gets the credit of what the others owe it.
-/
module

public import proofs.«01_k».proof.Proof.Body

@[expose] public section

set_option synthInstance.maxSize 1000

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's own semaphores. -/
def osem (o : Own) : SemLoc sig := .dma (dmaOf o)

theorem ownSemFacts : Pipeline.OwnSemFacts cfg0.spec osem := by decide +kernel

/-! ## Cells and tokens -/

def allCells : Finset (GSem nD τ sig) := Finset.univ.map ⟨cell, fun _ _ h => cell_inj h⟩

/-- Which duty: a signal by its number, or the one duty of an own semaphore. -/
def duty : Fin 3 ⊕ Own → Lane × Fin 3
  | .inl i => (.inl (), i)
  | .inr o => (.inr o, 0)

theorem duty_inj {j j' : Fin 3 ⊕ Own} (h : duty j = duty j') : j = j' := by
  rcases j with i | o <;> rcases j' with i' | o'
  · exact congrArg Sum.inl (congrArg Prod.snd h)
  · exact absurd (congrArg Prod.fst h) Sum.inl_ne_inr
  · exact absurd (congrArg Prod.fst h) Sum.inr_ne_inl
  · exact congrArg Sum.inr (Sum.inr_injective (congrArg Prod.fst h))

/-- A token's name. -/
def tokOf (x : Dev nD × (Fin 3 ⊕ Own)) : GSem nD τ sig × ℕ × Fin 3 := (cell (x.1, (duty x.2).1), 0, (duty x.2).2)

theorem tokOf_inj {x y : Dev nD × (Fin 3 ⊕ Own)} (h : tokOf x = tokOf y) : x = y := by
  have h1 := cell_inj (congrArg Prod.fst h)
  have h2 : (duty x.2).2 = (duty y.2).2 := congrArg (fun z => z.2.2) h
  have h3 : x.1 = y.1 := congrArg (fun z : Dev nD × Lane => z.1) h1
  exact Prod.ext h3 (duty_inj (Prod.ext (congrArg (fun z : Dev nD × Lane => z.2) h1) h2))

def allToks : Finset (GSem nD τ sig × ℕ × Fin 3) := Finset.univ.map ⟨tokOf, fun _ _ h => tokOf_inj h⟩

variable (X : Operands F)

/-- The tokens of device `c`'s own cells. -/
def toks (c : Dev nD) : sProp 𝕄 :=
  bigSep Finset.univ fun j : Fin 3 ⊕ Own => dutyTok EG (cell (c, (duty j).1)) 0 (duty j).2

/-- What the start of the ghost state gives device `c`. -/
def G (c : Dev nD) : sProp 𝕄 :=
  iprop((bigSep Finset.univ fun k : Lane => roundState EG (Rd X) (cell (c, k)) 0)
    ∗ ((bigSep Finset.univ fun k : Lane => atPos EG (cell (c, k)) 0 ∅ 0) ∗ bigSep Finset.univ fun k : Lane => reached EG (cell (c, k)) 0) ∗ toks c)

/-- A family over all cells, device by device. -/
theorem cells_split (Φ : GSem nD τ sig → sProp 𝕄) :
    bigSep allCells Φ = bigSep Finset.univ fun c : Dev nD => bigSep Finset.univ fun k : Lane => Φ (cell (c, k)) := by
  unfold allCells
  rw [BI.bigSep_map, BI.bigSep_univ_prod]
  rfl
theorem toks_split : bigSep allToks (fun x => (dutyTok EG x.1 x.2.1 x.2.2 : sProp 𝕄)) = bigSep Finset.univ fun c : Dev nD => toks c := by
  unfold allToks
  rw [BI.bigSep_map, BI.bigSep_univ_prod]
  rfl

theorem fund : BI.own (EG (initOf allCells allToks)) ⊢ (|==> bigSep Finset.univ (G X) : sProp 𝕄) := by
  iintro H
  imod (Rounds.fund EG (Rd X) allCells allToks) $$ H with ⟨Hst, Hr, Hat, Htok⟩
  imodintro
  ihave Hst' := (Entails.of_eq (cells_split fun g => roundState EG (Rd X) g 0)) $$ Hst
  ihave Hat' := (Entails.of_eq (cells_split fun g => atPos EG g 0 ∅ 0)) $$ Hat
  ihave Hr' := (Entails.of_eq (cells_split fun g => reached EG g 0)) $$ Hr
  ihave Htok' := (Entails.of_eq toks_split) $$ Htok
  unfold G
  simp only [bigSep_sep']
  isplitl [Hst']; · iexact Hst'
  isplitl [Hat' Hr']
  · isplitl [Hat'] <;> iassumption
  iexact Htok'

/-! ## Semaphores -/

theorem ownSems0_eq (c : Dev nD) : (Pipeline.ownSems0 (Ix := Unit) (Name := ℕ) (U := UU) (Lvl := ℕ) (Val := Elt F) (τ := τ) osem c : sProp 𝕄)
    = bigSep Finset.univ fun o : Own => semVal (cell (c, .inr o)) 0 := rfl
theorem unscopedSems0_eq (c : Dev nD) : (unscopedSems0 c : sProp 𝕄) = semVal (barCell c) 0 := by
  unfold unscopedSems0
  rw [bigSep_eq_bigSepL_of_eq [SemLoc.reg barSem] (by decide) (by decide)]
  rfl

/-- A family over a device's semaphores: the barrier's and the own ones'. -/
theorem lane_split (Φ : Lane → sProp 𝕄) : bigSep Finset.univ Φ = iprop(Φ (.inl ()) ∗ bigSep Finset.univ fun o : Own => Φ (.inr o)) := by
  rw [BI.bigSep_univ_sum, bigSep_univ_eq_bigSepL [()] (by decide) (by decide)]
  rfl

/-- What is made of it with the semaphores: each cell's invariant, at some name. -/
def Made (c : Dev nD) : sProp 𝕄 :=
  iprop((bigSep Finset.univ fun k : Lane => iprop(∃ κ : ℕ, cellInv EG (Rd X) κ (cell (c, k))))
    ∗ ((bigSep Finset.univ fun k : Lane => atPos EG (cell (c, k)) 0 ∅ 0) ∗ bigSep Finset.univ fun k : Lane => reached EG (cell (c, k)) 0) ∗ toks c)

theorem alloc_cells (c : Dev nD) :
    iprop((bigSep Finset.univ fun k : Lane => semVal (cell (c, k)) 0) ∗ bigSep Finset.univ fun k : Lane => roundState EG (Rd X) (cell (c, k)) 0)
      ⊢ (|={Set.univ}=> bigSep Finset.univ fun k : Lane => iprop(∃ κ : ℕ, cellInv EG (Rd X) κ (cell (c, k))) : sProp 𝕄) := by
  rw [← bigSep_sep']
  exact (BI.bigSep_mono fun k _ => (Rounds.body_intro EG (Rd X) (cell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> Made X c := by
  unfold G Made
  rw [ownSems0_eq, unscopedSems0_eq]
  iintro ⟨Hos, Hus, Hst, Hat, Htok⟩
  imod (alloc_cells X c) $$ [Hos Hus Hst] with Hinv
  · isplitl [Hos Hus]
    · rw [lane_split]
      isplitl [Hus] <;> iassumption
    iexact Hst
  imodintro
  isplitl [Hinv]; · iexact Hinv
  isplitl [Hat]; · iexact Hat
  iexact Htok

/-! ## Tokens to their payers -/

/-- A family of things, each dealt to the device across a pattern. -/
theorem deal {I : Type} [Fintype I] (k : I → Fin 8) (Φ : I → Dev nD → sProp 𝕄) :
    (bigSep Finset.univ fun c : Dev nD => bigSep Finset.univ fun i : I => Φ i c)
      = bigSep Finset.univ fun c : Dev nD => bigSep Finset.univ fun i : I => Φ i (across (k i) c) := by
  rw [BI.bigSep_univ_comm, BI.bigSep_univ_comm (fun (c : Dev nD) (i : I) => Φ i (across (k i) c))]
  exact bigSep_congr fun i _ => BI.bigSep_univ_equiv (flip (k i)) (Φ i)

/-- The tokens of the duties that device `c` pays. -/
def payToks (c : Dev nD) : sProp 𝕄 :=
  iprop((bigSep Finset.univ fun i : Fin 3 => dutyTok EG (barCell (across (sides i) c)) 0 i) ∗ dutyTok EG (ownCell c) 0 0
    ∗ (bigSep Finset.univ fun t : Msg => dutyTok EG (sendCell c t) 0 0)
    ∗ bigSep Finset.univ fun t : Msg => dutyTok EG (recvCell (across (link t) c) t) 0 0)

theorem toks_eq (c : Dev nD) : (toks c : sProp 𝕄)
    = iprop((bigSep Finset.univ fun i : Fin 3 => dutyTok EG (barCell c) 0 i) ∗ dutyTok EG (ownCell c) 0 0
    ∗ (bigSep Finset.univ fun t : Msg => dutyTok EG (sendCell c t) 0 0)
    ∗ bigSep Finset.univ fun t : Msg => dutyTok EG (recvCell c t) 0 0) := by
  unfold toks
  rw [BI.bigSep_univ_sum, BI.bigSep_univ_sum, BI.bigSep_univ_sum, bigSep_univ_eq_bigSepL [()] (by decide) (by decide)]
  rfl

theorem toks_around : (bigSep Finset.univ fun c : Dev nD => (toks c : sProp 𝕄)) = bigSep Finset.univ fun c : Dev nD => payToks c := by
  simp only [toks_eq]
  unfold payToks
  simp only [bigSep_sep']
  rw [deal sides (fun i c => (dutyTok EG (barCell c) 0 i : sProp 𝕄)), deal link (fun t c => (dutyTok EG (recvCell c t) 0 0 : sProp 𝕄))]

/-! ## To every device -/

/-- The invariants and that every cell is at its round. -/
def known (K : Dev nD × Lane → ℕ) : sProp 𝕄 :=
  iprop((bigSep Finset.univ fun x : Dev nD × Lane => cellInv EG (Rd X) (K x) (cell x))
    ∗ bigSep Finset.univ fun x : Dev nD × Lane => reached EG (cell x) 0)

instance known_persistent (K : Dev nD × Lane → ℕ) : BI.Persistent (known X K) := by unfold known; infer_instance

/-- What only device `c` holds of the ghost state. -/
def linear (c : Dev nD) : sProp 𝕄 := iprop((bigSep Finset.univ fun k : Lane => atPos EG (cell (c, k)) 0 ∅ 0) ∗ payToks c)

/-- What the launch hands device `c`. -/
def G' (c : Dev nD) : sProp 𝕄 := iprop(∃ K, known X K ∗ linear c)

theorem G'_intro (K : Dev nD × Lane → ℕ) (c : Dev nD) : iprop(known X K ∗ linear c) ⊢ G' X c := by
  unfold G'
  iintro H
  iexists K
  iexact H

/-- What everybody knows, to each. -/
theorem share_out (K : Dev nD × Lane → ℕ) : iprop(known X K ∗ bigSep Finset.univ fun c : Dev nD => linear (F := F) c) ⊢ bigSep Finset.univ (G' X) :=
  (sep_mono_left (BI.bigSep_of_persistent Finset.univ (known X K))).trans (by
    rw [← bigSep_sep']
    exact BI.bigSep_mono fun c _ => G'_intro X K c)

theorem regroup : bigSep Finset.univ (Made X) ⊢ bigSep Finset.univ (G' X) := by
  unfold Made
  simp only [bigSep_sep']
  rw [← BI.bigSep_univ_prod (fun x : Dev nD × Lane => iprop(∃ κ : ℕ, cellInv EG (Rd X) κ (cell x))),
    ← BI.bigSep_univ_prod (fun x : Dev nD × Lane => (reached EG (cell x) 0 : sProp 𝕄)), toks_around]
  iintro ⟨HI, ⟨Hat, #HR⟩, Htok⟩
  ihave HK := (BI.bigSep_exists_pi Finset.univ (fun (x : Dev nD × Lane) (κ : ℕ) => (cellInv EG (Rd X) κ (cell x) : sProp 𝕄))) $$ HI
  icases HK with ⟨%K, #HI⟩
  iapply (share_out X K)
  isplitr
  · unfold known
    isplitl; · iexact HI
    iexact HR
  unfold linear
  simp only [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((BI.bigSep_mono fun c _ => core_alloc X c).trans (bigSep_fupd _ _)).trans (BI.fupd_mono (regroup X))

/-! ## Credits -/

/-- Three units, one by one. -/
theorem three_units (g : GSem nD τ sig) : (∑ _i : Fin 3, tallyAt g () 1 : CellTallies nD τ sig Unit) = tallyAt g () 3 := by
  rw [Fin.sum_univ_three, tallyAt_add, tallyAt_add]

/-- What the others owe device `c` at the start. -/
theorem creds (c : Dev nD) : (Pipeline.launchCred owed₀ c : sProp 𝕄)
    ⊢ iprop((bigSep Finset.univ fun t : Msg => cred (tallyAt (recvCell c t) () (credit t))) ∗ cred (tallyAt (barCell c) () 3)) := by
  rw [show (owed₀ : Dev nD → CellTallies nD τ sig Unit) = fun d => owed d Finset.univ + owedBar d from rfl, Pipeline.launchCred_add]
  unfold owed owedBar
  rw [Pipeline.launchCred_sum Finset.univ (fun t d => tallyAt (recvCell (across (link t) d) t) () (credit t)),
    Pipeline.launchCred_sum Finset.univ (fun i d => tallyAt (barCell (across (sides i) d)) () 1), ← three_units, Pipeline.cred_finsetSum]
  exact BIClass.sep_mono
    (BI.bigSep_mono fun t _ => Pipeline.launchCred_tallyAt _ (across (link t)) (across (link t)) (across_across _) (across_across _) () (credit t) c)
    (BI.bigSep_mono fun i _ => Pipeline.launchCred_tallyAt _ (across (sides i)) (across (sides i)) (across_across _) (across_across _) () 1 c)

/-- All that a device starts from. -/
theorem ready_intro (c : Dev nD) (f : Result F) :
    iprop(G' X c ∗ Pipeline.launchCred owed₀ c ∗ levAts L lv ∗ wholePts c fullShare (X c) ∗ outPts c f) ⊢ iprop(∃ K, ready X K c) := by
  unfold G' known linear payToks
  iintro ⟨⟨%K, ⟨#HI, #HR⟩, Hat, HtB, HtH, HtS, HtV⟩, Hcr, #Hlev, Hx, Ho⟩
  ihave Hc := (creds (F := F) c) $$ Hcr
  icases Hc with ⟨HcV, HcB⟩
  ihave Hat1 := (Entails.of_eq (lanes fun k => atPos EG (cell (c, k)) 0 ∅ 0)) $$ Hat
  icases Hat1 with ⟨HatB, HatH, HatS, HatV⟩
  iexists K
  unfold ready records barKit homeKit sendToks recvKit
  simp only [bigSep_sep']
  isplitr
  · isplitr; · iexact HI
    isplitr; · iexact HR
    iexact Hlev
  isplitl [HatB HcB HtB]
  · isplitl [HatB]; · iexact HatB
    isplitl [HcB] <;> iassumption
  isplitl [HatH HtH]
  · isplitl [HatH] <;> iassumption
  isplitl [HtS HtV HatS]
  · isplitl [HtS HtV]
    · isplitl [HtS] <;> iassumption
    iexact HatS
  isplitl [HatV HcV]
  · isplitl [HatV] <;> iassumption
  isplitl [Hx]; · iexact Hx
  iexists f
  iexact Ho

end Cert.Cube

end
-- ==== Proof.Run.lean ====
/-
  The run of the whole program on all devices: it ends, the operands are as they were, every
  device's result is the gathered array, and every semaphore is at zero.
-/
module

public import proofs.«01_k».proof.Proof.Deal
public import Idealize.ShloMosaic.Lib.Pipeline.CollectiveSegs

@[expose] public section

set_option synthInstance.maxSize 1000

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The devices' operands in a memory. -/
def operands : Operands F := fun c => m ((c : Thread nD τ).loc main_arg0)

/-- The operand's points-to is the whole of it at the full share. -/
theorem wholePts_full (c : Dev nD) (f : (main_arg0 : Ref sig .tc).ty.Contents (Elt F)) :
    (((c : Thread nD τ).loc main_arg0) ↦{fullShare} f : sProp 𝕄) = wholePts c fullShare f :=
  congrArg (fun S => (((c : Thread nD τ).loc main_arg0) ↦[S]{fullShare} f : sProp 𝕄)) (View.set_whole main_arg0).symm

/-! ## The call's one point -/

/-- What a device holds before it. -/
def Φ₀ (c : Dev nD) : sProp 𝕄 := iprop(∃ K, ready (operands m) K c)

def dats (_ : Fin 1) (c : Dev nD) : Pipeline.Dat τ (Elt F) Unit ℕ UU ℕ cfg0 c where
  A w := w.elim0
  after w _ := w.elim0
  Φ t := match t with
    | ⟨0, _⟩ => Φ₀ m c
    | ⟨_ + 1, _⟩ => done (operands m) c
  q _ := fullShare
  owed t := match t with
    | ⟨0, _⟩ => owed₀ c
    | ⟨_ + 1, _⟩ => 0

/-- The call has no windows, so nothing is asked for them. -/
theorem no_windows (Φ : Fin 0 → sProp 𝕄) : iprop(emp) ⊢ bigSep (Finset.univ : Finset (Fin 0)) Φ := by
  rw [show (Finset.univ : Finset (Fin 0)) = ∅ from rfl, bigSep_empty]
  exact .rfl

theorem body_obligation (c : Dev nD) : Pipeline.BodyObligation (dats m 0 c) (defs₀ (F := F)) 𝒱₀ () Set.univ := fun t => by
  rw [fin_N0 t]
  show iprop(Φ₀ m c ∗ (dats m 0 c).owesAt () (t0_0 : Fin cfg0.N).castSucc ∗ bigSep (Finset.univ : Finset (Fin 0)) _)
    ⊢ wp frame (wpE (defs₀ (F := F)) 𝒱₀ c none) Set.univ
      (cc0_body (F := F) xAll (Memref.isWhole_whole main_arg0) oAll (Memref.isWhole_whole main_v1) cc0_scratch0 cc0_scratch1 cc0_scratch2)
      (fun _ => iprop(done (operands m) c ∗ (dats m 0 c).owesAt () (t0_0 : Fin cfg0.N).succ ∗ bigSep (Finset.univ : Finset (Fin 0)) _))
  rw [body_text, wp_deviceId]
  unfold Φ₀ Pipeline.Dat.owesAt Pipeline.owesWithin
  iintro ⟨⟨%K, Hr⟩, ⟨%W, %hW, HO⟩, Hw⟩
  iapply (sound (operands m) K c _ W)
  isplitl [Hr]; · iexact Hr
  isplitl [HO]; · iexact HO
  iintro ⟨Hd, ⟨%W', HO⟩⟩
  isplitl [Hd]; · iexact Hd
  isplitl [HO]
  · iexists W'
    isplitr; · ipureintro; exact fun _ _ => Or.inl trivial
    iexact HO
  · iapply (no_windows _)
    iempintro

/-! ## The launch -/

def u₀ : UU := (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' (operands m) c)
      ⊢ |={Set.univ}=> iprop(Φ₀ m c ∗ emp) := by
  rw [Pipeline.unscopedRestP_none, unscopedRest0_eq, wholePts_full]
  iintro ⟨⟨Hx, Ho⟩, Hlev, Hcr, -, HG⟩
  imodintro
  unfold Φ₀
  isplitl
  · iapply (ready_intro (operands m) c (m ((c : Thread nD τ).loc main_v1)))
    isplitl [HG]; · iexact HG
    isplitl [Hcr]; · iexact Hcr
    isplitl [Hlev]; · iexact Hlev
    isplitl [Hx]; · iexact Hx
    unfold outPts
    iexact Ho
  · iempintro

theorem phi0_intro (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  iintro ⟨Hs, -, -⟩
  iexact Hs

/-- What is read at the end. -/
def Held (c : Dev nD) : sProp 𝕄 :=
  iprop(unscopedSems0 c ∗ wholePts c fullShare (operands m c) ∗ outPts c (gathered (operands m)))

theorem phi1_exit (c : Dev nD) :
    (dats m 0 c).Φ (Fin.last cfg0.N) ⊢ iprop(Held m c ∗ Pipeline.ownSems0 osem c ∗ Pipeline.scopedRest cfg0.spec c) := by
  rw [show (dats m 0 c).Φ (Fin.last cfg0.N) = done (operands m) c from rfl, scopedRest0_eq, ownSems0_eq]
  unfold done Held
  rw [unscopedSems0_eq, lane_split]
  iintro ⟨Hx, Ho, HzB, Hz⟩
  isplitl [Hx Ho HzB]
  · isplitl [HzB]; · iexact HzB
    isplitl [Hx] <;> iassumption
  isplitl [Hz]; · iexact Hz
  iempintro

/-- A whole buffer's contents, read in a final state. -/
theorem read_whole (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  iintro ⟨H, HSI⟩
  icombine HSI H gives %h
  isplitr
  · ipureintro
    exact Buf.eq_of_forall_mem_univ h
  iexact HSI

/-- What the end tells of a device's memory and counters. -/
def Ends (c : Dev nD) (s : MemSt nD τ sig (Elt F)) : Prop :=
  (s.mem ((c : Thread nD τ).loc main_arg0) = operands m c ∧ s.mem ((c : Thread nD τ).loc main_v1) = gathered (operands m))
    ∧ ∀ sm : SemLoc sig, sm.isScoped .tc = false → s.sem ((c.tc : Thread nD τ), sm) = 0

theorem read_end (c : Dev nD) (s' : Phys nD τ sig (Elt F)) :
    iprop(Held m c ∗ emp ∗ SI s') ⊢ |={Set.univ}=> iprop(⌜Ends m c s'.mem⌝ ∗ SI s') := by
  unfold Held
  rw [← wholePts_full]
  unfold outPts
  iintro ⟨⟨Hu, Hx, Ho⟩, -, HSI⟩
  ihave Hx1 := (read_whole _ _ s') $$ [Hx HSI]
  · isplitl [Hx] <;> iassumption
  icases Hx1 with ⟨%hx, HSI⟩
  ihave Ho1 := (read_whole _ _ s') $$ [Ho HSI]
  · isplitl [Ho] <;> iassumption
  icases Ho1 with ⟨%ho, HSI⟩
  imod (Pipeline.unscopedSems0_read (X := unscopedSems0 c) (c := c) fupd_intro s') $$ [Hu HSI] with H
  · isplitl [Hu] <;> iassumption
  icases H with ⟨%hu, HSI⟩
  imodintro
  isplitr
  · ipureintro
    exact ⟨⟨hx, ho⟩, hu⟩
  iexact HSI

set_option maxRecDepth 8000 in
/-- For any float values and from any memory with the counters at zero, every execution ends with every device's operand
    unchanged, its result the gathered array, and the counters at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_v1) = gathered (operands m)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := owed₀) (howed₀ := fun _ => rfl) (howedN := fun _ => rfl)
    (L := L) (lv := lv) (hL := L_of_ne)
    (hwaits := fun c => Pipeline.cellsWaits_intro cfgs (dats m) () 0 c fun w _ _ => w.elim0)
    (G := G (operands m)) (G' := G' (operands m)) (u₀ := u₀)
    (hu₀ := by
      unfold u₀
      iintro Hu
      ihave H := (ownU_pair _ _) $$ Hu
      icases H with ⟨HP, HX⟩
      imod (fund (operands m)) $$ HX with HG
      imodintro
      isplitl [HP] <;> iassumption)
    (hglob := glob (operands m))
    (hA := fun _ w => w.elim0) (hpf := fun _ k => k.elim0)
    (X := Φ₀ m) (Y := Held m) (Z := fun _ => iprop(emp))
    (hX := start_intro m ρ) (hin := phi0_intro m) (hout := phi1_exit m)
    (QY := Ends m) (hY := read_end m)
    (hQ := fun _ h hs => ⟨fun c => (h c).2.2.1, sem_eq_zero hs fun c => (h c).2.2.2⟩)

end Cert.Cube

end
-- ==== Proof.lean ====
/-
  The proof of `Cert.Claim`. One run of the whole program, proved for any float values (Proof/Run.lean), gives both frames of
  the kernel — it and its idealization have the same text — and, with the reference's run, the equality of results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import Idealize.ShloMosaic.Lib.StableHlo.Run
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-! ## The frames -/

/-- The kernel at the bit-exact values. -/
theorem frame_kernel : Cert.quiescent_Kernel := fun m ρ _ =>
  (θ_run Cert.KernelIdeal.defs _ _).mono (fun _ h => ⟨fun c => (h.1 c).1, h.2⟩) (Cert.Cube.run_main (F := Bits) m ρ)

/-- The kernel at the ideal values. -/
theorem frame_kernelIdeal : Cert.quiescent_KernelIdeal := fun m ρ _ =>
  (θ_run Cert.KernelIdeal.defs _ _).mono (fun _ h => ⟨fun c => (h.1 c).1, h.2⟩) (Cert.Cube.run_main (F := Ideal) m ρ)

/-- The reference does nothing: it returns its argument, which is as it was. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ d : Dev Cert.ReferenceIdeal.nD, r.2.mem ((d.tc : Thread Cert.ReferenceIdeal.nD Cert.ReferenceIdeal.τ).loc Cert.ReferenceIdeal.main_arg0)
        = m ((d.tc : Thread Cert.ReferenceIdeal.nD Cert.ReferenceIdeal.τ).loc Cert.ReferenceIdeal.main_arg0)) :=
  (θ_run Cert.ReferenceIdeal.defs _ _).mono (fun _ h d => h d Cert.ReferenceIdeal.main_arg0)
    (StableHlo.run_seq (by decide) (by decide) Cert.ReferenceIdeal.defs Cert.ReferenceIdeal.main (fun _ => []) (fun _ => rfl)
      (fun _ => trivial) m ρ)

/-- It has no semaphores. -/
theorem frame_referenceIdeal : Cert.quiescent_ReferenceIdeal := fun m ρ _ =>
  (θ_run Cert.ReferenceIdeal.defs _ _).mono (fun r h => ⟨h, sem_eq_zero_of_no_sems rfl r.2⟩) (reference_run m ρ)

/-! ## The value -/

/-- The blocks of an array, one after the other, are the array. -/
theorem gathered_blocks {F : FTy → Type} (X : Cert.Cube.Operands F) (v : Cert.Cube.Result F)
    (h : ∀ c, X c = Layout.block ⟨2, ![2048, 512]⟩ ⟨2, ![16384, 512]⟩ 0 8 c v) : Cert.Cube.gathered X = v := by
  funext i
  unfold Cert.Cube.gathered
  rw [h (Cert.Cube.blockOf i)]
  refine congrArg v (funext fun a => Fin.ext ?_)
  revert a
  refine Fin.forall_fin_two.mpr ⟨?_, rfl⟩
  show (i 0).val / 2048 * 2048 + (i 0).val % 2048 = (i 0).val
  omega

/-- Every device's result is the reference's. -/
theorem algebraic : Cert.algebraic_KernelIdeal_ReferenceIdeal := fun m ρ m' ρ' _ hin =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨(h.1 c).2.trans (gathered_blocks (Cert.Cube.operands m) _ hin), (h.1 c).1⟩) (Cert.Cube.run_main (F := Ideal) m ρ),
    (θ_run Cert.ReferenceIdeal.defs _ _).mono (fun _ h => ⟨h 0, h 0⟩) (reference_run m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
